-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 2048]⟩ ⟨2, ![512, 4096]⟩ (Layout.meshBlock [2, 4, 4] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![512, 4096]⟩ (Layout.meshBlock [2, 4, 4] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![1024, 512]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def holds_ReferenceIdeal_near_the_product [hReferenceIdeal : Cert.ReferenceIdeal.Facts] [hPost_near_the_product : Cert.Post_near_the_product.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ (Cert.Post_near_the_product.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (r.2.mem ((c.tc : Thread Cert.ReferenceIdeal.nD Cert.ReferenceIdeal.τ).loc Cert.ReferenceIdeal.main_v40))) = (fun _ => 1#1))

def Claim : Prop :=
  ∃ (hKernel : Cert.Kernel.Facts) (hKernelIdeal : Cert.KernelIdeal.Facts) (hReferenceIdeal : Cert.ReferenceIdeal.Facts) (hPost_near_the_product : Cert.Post_near_the_product.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_ReferenceIdeal_near_the_product (hReferenceIdeal := hReferenceIdeal) (hPost_near_the_product := hPost_near_the_product)
-- ==== Post_near_the_product.lean ====
abbrev S512x4096 : Shape := ⟨2, ![512, 4096]⟩
abbrev S1024x512 : Shape := ⟨2, ![1024, 512]⟩
abbrev S4096x512 : Shape := ⟨2, ![4096, 512]⟩
abbrev S512x512 : Shape := ⟨2, ![512, 512]⟩
abbrev S512x2048 : Shape := ⟨2, ![512, 2048]⟩
abbrev S2048x512 : Shape := ⟨2, ![2048, 512]⟩
abbrev S256x512 : Shape := ⟨2, ![256, 512]⟩
abbrev S_ : Shape := ⟨0, ![]⟩

class Facts : Prop where
  transposes_S512x4096_S4096x512_1_0 : S512x4096.Transposes [1, 0] S4096x512
  slices_S512x4096_S512x2048_0_0 : S512x4096.Slices ![0, 0] S512x2048
  transposes_S512x2048_S2048x512_1_0 : S512x2048.Transposes [1, 0] S2048x512
  slices_S512x4096_S512x2048_0_2048 : S512x4096.Slices ![0, 2048] S512x2048
  slices_S1024x512_S512x512_0_0 : S1024x512.Slices ![0, 0] S512x512
  slices_S512x512_S256x512_0_0 : S512x512.Slices ![0, 0] S256x512
  reducesTo_S256x512_S_d0_1 : S256x512.ReducesTo [0, 1] S_
  h_S_ : 0 < S_.numel
  bcast_S_S512x512 : S_.BroadcastsInDim S512x512 (![] : Fin 0 → Fin S512x512.rank)
  slices_S512x512_S256x512_256_0 : S512x512.Slices ![256, 0] S256x512
  concatenates_S256x512_S256x512_S512x512_d0 : Shape.Concatenates [S256x512, S256x512] S512x512 0
  slices_S1024x512_S512x512_512_0 : S1024x512.Slices ![512, 0] S512x512
  concatenates_S512x512_S512x512_S1024x512_d0 : Shape.Concatenates [S512x512, S512x512] S1024x512 0
  dot_S512x4096_S4096x512_S512x512_1_0_0_1_n_n_wf : DotDims.WF S512x4096 S4096x512 S512x512 [1] [0] [0] [1] [] []
  dot_S512x2048_S2048x512_S512x512_1_0_0_1_n_n_wf : DotDims.WF S512x2048 S2048x512 S512x512 [1] [0] [0] [1] [] []

variable [Facts]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def fn_part2 {F : FTy → Type} [FloatOps F] (main_v1 : FVec F S512x512 .f32) (main_v5 : FVec F S512x512 .f32) (main_v33 : IVec S512x512 1) (main_v34 : FVec F S512x512 .f32) (main_v38 : FVec F S_ .f32) (main_cst_7 : FVec F S_ .f32) : IVec S1024x512 1 :=
  let main_v39 : FVec F S_ .f32 := addf main_v38 main_cst_7
  let main_cst_8 : FVec F S_ .f32 := constant S_ .f32 0x3F000000#32
  let main_v40 : FVec F S_ .f32 := mulf main_cst_8 main_v39
  let main_v41 : FVec F S512x512 .f32 := broadcastInDim S512x512 ![] bcast_S_S512x512 main_v40
  let main_v42 : FVec F S512x512 .f32 := subf main_v34 main_v41
  let main_v43 : IVec S512x512 1 := cmpf .ole main_v42 main_v1
  let main_cst_9 : FVec F S_ .f32 := constant S_ .f32 0x3F000000#32
  let main_v44 : FVec F S_ .f32 := mulf main_cst_9 main_v39
  let main_v45 : FVec F S512x512 .f32 := broadcastInDim S512x512 ![] bcast_S_S512x512 main_v44
  let main_v46 : FVec F S512x512 .f32 := subf main_v1 main_v45
  let main_v47 : IVec S512x512 1 := cmpf .ole main_v46 main_v34
  let main_v48 : IVec S512x512 1 := andi main_v43 main_v47
  let main_v49 : FVec F S512x512 .f32 := Host.absf main_v5
  let main_cst_10 : FVec F S_ .f32 := constant S_ .f32 0x42FE0000#32
  let main_v50 : FVec F S_ .f32 := mulf main_cst_10 main_v39
  let main_v51 : FVec F S512x512 .f32 := broadcastInDim S512x512 ![] bcast_S_S512x512 main_v50
  let main_v52 : IVec S512x512 1 := cmpf .ogt main_v49 main_v51
  let main_v53 : IVec S256x512 1 := (extractStridedSlice S256x512 ![0, 0] · slices_S512x512_S256x512_0_0) main_v48
  let main_v54 : IVec S256x512 1 := (extractStridedSlice S256x512 ![256, 0] · slices_S512x512_S256x512_256_0) main_v48
  let main_v55 : IVec S256x512 1 := (extractStridedSlice S256x512 ![256, 0] · slices_S512x512_S256x512_256_0) main_v52
  let main_v56 : IVec S256x512 1 := ori main_v54 main_v55
  let main_v57 : IVec S512x512 1 := (fun a b => concatenate S512x512 0 [⟨S256x512, a⟩, ⟨S256x512, b⟩] concatenates_S256x512_S256x512_S512x512_d0) main_v53 main_v56
  let main_v58 : IVec S1024x512 1 := (fun a b => concatenate S1024x512 0 [⟨S512x512, a⟩, ⟨S512x512, b⟩] concatenates_S512x512_S512x512_S1024x512_d0) main_v33 main_v57
  main_v58

def fn_part1 {F : FTy → Type} [FloatOps F] (main_arg2 : FVec F S1024x512 .f32) (main_v1 : FVec F S512x512 .f32) (main_v5 : FVec F S512x512 .f32) (main_v9 : FVec F S512x512 .f32) (main_v10 : FVec F S512x512 .f32) (main_v15 : FVec F S_ .f32) (main_v19 : IVec S512x512 1) : IVec S1024x512 1 :=
  let main_cst_3 : FVec F S_ .f32 := constant S_ .f32 0x3F000000#32
  let main_v20 : FVec F S_ .f32 := mulf main_cst_3 main_v15
  let main_v21 : FVec F S512x512 .f32 := broadcastInDim S512x512 ![] bcast_S_S512x512 main_v20
  let main_v22 : FVec F S512x512 .f32 := subf main_v1 main_v21
  let main_v23 : IVec S512x512 1 := cmpf .ole main_v22 main_v10
  let main_v24 : IVec S512x512 1 := andi main_v19 main_v23
  let main_v25 : FVec F S512x512 .f32 := Host.absf main_v9
  let main_cst_4 : FVec F S_ .f32 := constant S_ .f32 0x42FE0000#32
  let main_v26 : FVec F S_ .f32 := mulf main_cst_4 main_v15
  let main_v27 : FVec F S512x512 .f32 := broadcastInDim S512x512 ![] bcast_S_S512x512 main_v26
  let main_v28 : IVec S512x512 1 := cmpf .ogt main_v25 main_v27
  let main_v29 : IVec S256x512 1 := (extractStridedSlice S256x512 ![0, 0] · slices_S512x512_S256x512_0_0) main_v24
  let main_v30 : IVec S256x512 1 := (extractStridedSlice S256x512 ![256, 0] · slices_S512x512_S256x512_256_0) main_v24
  let main_v31 : IVec S256x512 1 := (extractStridedSlice S256x512 ![256, 0] · slices_S512x512_S256x512_256_0) main_v28
  let main_v32 : IVec S256x512 1 := ori main_v30 main_v31
  let main_v33 : IVec S512x512 1 := (fun a b => concatenate S512x512 0 [⟨S256x512, a⟩, ⟨S256x512, b⟩] concatenates_S256x512_S256x512_S512x512_d0) main_v29 main_v32
  let main_v34 : FVec F S512x512 .f32 := (extractStridedSlice S512x512 ![512, 0] · slices_S1024x512_S512x512_512_0) main_arg2
  let main_v35 : FVec F S256x512 .f32 := (extractStridedSlice S256x512 ![0, 0] · slices_S512x512_S256x512_0_0) main_v5
  let main_v36 : FVec F S256x512 .f32 := Host.absf main_v35
  let main_cst_5 : FVec F S_ .f32 := constant S_ .f32 0xFF800000#32
  let main_v37 : FVec F S_ .f32 := (fun x v => Host.reduce FloatOps.maximumf x v reducesTo_S256x512_S_d0_1 h_S_) main_v36 main_cst_5
  let main_cst_6 : FVec F S_ .f32 := constant S_ .f32 0x3C214285#32
  let main_v38 : FVec F S_ .f32 := mulf main_v37 main_cst_6
  let main_cst_7 : FVec F S_ .f32 := constant S_ .f32 0x0DA24260#32
  fn_part2 (F := F) main_v1 main_v5 main_v33 main_v34 main_v38 main_cst_7

def fn {F : FTy → Type} [FloatOps F] (main_arg0 : FVec F S512x4096 .f32) (main_arg1 : FVec F S512x4096 .f32) (main_arg2 : FVec F S1024x512 .f32) : IVec S1024x512 1 :=
  let main_v0 : FVec F S4096x512 .f32 := (transpose S4096x512 [1, 0] · transposes_S512x4096_S4096x512_1_0) main_arg1
  let main_v1 : FVec F S512x512 .f32 := (fun l r => Host.dotGeneral dot_S512x4096_S4096x512_S512x512_1_0_0_1_n_n none l r) main_arg0 main_v0
  let main_v2 : FVec F S512x2048 .f32 := (extractStridedSlice S512x2048 ![0, 0] · slices_S512x4096_S512x2048_0_0) main_arg0
  let main_v3 : FVec F S512x2048 .f32 := (extractStridedSlice S512x2048 ![0, 0] · slices_S512x4096_S512x2048_0_0) main_arg1
  let main_v4 : FVec F S2048x512 .f32 := (transpose S2048x512 [1, 0] · transposes_S512x2048_S2048x512_1_0) main_v3
  let main_v5 : FVec F S512x512 .f32 := (fun l r => Host.dotGeneral dot_S512x2048_S2048x512_S512x512_1_0_0_1_n_n none l r) main_v2 main_v4
  let main_v6 : FVec F S512x2048 .f32 := (extractStridedSlice S512x2048 ![0, 2048] · slices_S512x4096_S512x2048_0_2048) main_arg0
  let main_v7 : FVec F S512x2048 .f32 := (extractStridedSlice S512x2048 ![0, 2048] · slices_S512x4096_S512x2048_0_2048) main_arg1
  let main_v8 : FVec F S2048x512 .f32 := (transpose S2048x512 [1, 0] · transposes_S512x2048_S2048x512_1_0) main_v7
  let main_v9 : FVec F S512x512 .f32 := (fun l r => Host.dotGeneral dot_S512x2048_S2048x512_S512x512_1_0_0_1_n_n none l r) main_v6 main_v8
  let main_v10 : FVec F S512x512 .f32 := (extractStridedSlice S512x512 ![0, 0] · slices_S1024x512_S512x512_0_0) main_arg2
  let main_v11 : FVec F S256x512 .f32 := (extractStridedSlice S256x512 ![0, 0] · slices_S512x512_S256x512_0_0) main_v9
  let main_v12 : FVec F S256x512 .f32 := Host.absf main_v11
  let main_cst : FVec F S_ .f32 := constant S_ .f32 0xFF800000#32
  let main_v13 : FVec F S_ .f32 := (fun x v => Host.reduce FloatOps.maximumf x v reducesTo_S256x512_S_d0_1 h_S_) main_v12 main_cst
  let main_cst_0 : FVec F S_ .f32 := constant S_ .f32 0x3C214285#32
  let main_v14 : FVec F S_ .f32 := mulf main_v13 main_cst_0
  let main_cst_1 : FVec F S_ .f32 := constant S_ .f32 0x0DA24260#32
  let main_v15 : FVec F S_ .f32 := addf main_v14 main_cst_1
  let main_cst_2 : FVec F S_ .f32 := constant S_ .f32 0x3F000000#32
  let main_v16 : FVec F S_ .f32 := mulf main_cst_2 main_v15
  let main_v17 : FVec F S512x512 .f32 := broadcastInDim S512x512 ![] bcast_S_S512x512 main_v16
  let main_v18 : FVec F S512x512 .f32 := subf main_v10 main_v17
  let main_v19 : IVec S512x512 1 := cmpf .ole main_v18 main_v1
  fn_part1 (F := F) main_arg2 main_v1 main_v5 main_v9 main_v10 main_v15 main_v19
-- ==== Kernel.lean ====
abbrev S512x2048 : Shape := ⟨2, ![512, 2048]⟩
abbrev S512x512 : Shape := ⟨2, ![512, 512]⟩
abbrev S2x512x512 : Shape := ⟨3, ![2, 512, 512]⟩
abbrev S2x8x128 : Shape := ⟨3, ![2, 8, 128]⟩
abbrev S2 : Shape := ⟨1, ![2]⟩
abbrev S_ : Shape := ⟨0, ![]⟩
abbrev S1 : Shape := ⟨1, ![1]⟩
abbrev S256x2048 : Shape := ⟨2, ![256, 2048]⟩
abbrev S256x512 : Shape := ⟨2, ![256, 512]⟩
abbrev S1x256x512 : Shape := ⟨3, ![1, 256, 512]⟩
abbrev S1x1x1 : Shape := ⟨3, ![1, 1, 1]⟩
abbrev S8x128 : Shape := ⟨2, ![8, 128]⟩
abbrev S1x8x128 : Shape := ⟨3, ![1, 8, 128]⟩
abbrev S1x1 : Shape := ⟨2, ![1, 1]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x512, .f32⟩
  | .local _ .vmem, ⟨0, _⟩ => ⟨S512x512, .f32⟩
  | .local _ .vmem, ⟨1, _⟩ => ⟨S512x2048, .f32⟩
  | .local _ .vmem, ⟨2, _⟩ => ⟨S512x2048, .f32⟩
  | .local _ .vmem, ⟨3, _⟩ => ⟨S2x512x512, .i8⟩
  | .local _ .vmem, ⟨4, _⟩ => ⟨S2x8x128, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_42 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_41 : BitVec 32 := 16#32
  let v55 : BitVec 32 := Scalar.muli v9 c16_i32_41
  let v56 : BitVec 32 := Scalar.addi c0_i32_42 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_43 : BitVec 32 := 4#32
  let v57 : BitVec 32 := Scalar.muli v5 c4_i32_43
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v59 : BitVec 32 := Scalar.muli v8 c1_i32_44
  let v60 : BitVec 32 := Scalar.addi v58 v59
  v60.toNat
def k0_dev3 (d0 : Dev nD) : Nat :=
  let c0_i32_52 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_51 : BitVec 32 := 16#32
  let v69 : BitVec 32 := Scalar.muli v9 c16_i32_51
  let v70 : BitVec 32 := Scalar.addi c0_i32_52 v69
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_53 : BitVec 32 := 4#32
  let v71 : BitVec 32 := Scalar.muli v5 c4_i32_53
  let v72 : BitVec 32 := Scalar.addi v70 v71
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v73 : BitVec 32 := Scalar.muli v8 c1_i32_54
  let v74 : BitVec 32 := Scalar.addi v72 v73
  v74.toNat
def k0_dev4 (d0 : Dev nD) : Nat :=
  let c0_i32_78 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_77 : BitVec 32 := 16#32
  let v97 : BitVec 32 := Scalar.muli v9 c16_i32_77
  let v98 : BitVec 32 := Scalar.addi c0_i32_78 v97
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_79 : BitVec 32 := 4#32
  let v99 : BitVec 32 := Scalar.muli v5 c4_i32_79
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_80 : BitVec 32 := 1#32
  let v101 : BitVec 32 := Scalar.muli v8 c1_i32_80
  let v102 : BitVec 32 := Scalar.addi v100 v101
  v102.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x4096 : Shape := ⟨2, ![512, 4096]⟩
abbrev S512x2048 : Shape := ⟨2, ![512, 2048]⟩
abbrev S2048x512 : Shape := ⟨2, ![2048, 512]⟩
abbrev S512x512 : Shape := ⟨2, ![512, 512]⟩
abbrev S256x512 : Shape := ⟨2, ![256, 512]⟩
abbrev S_ : Shape := ⟨0, ![]⟩
abbrev S1024x512 : Shape := ⟨2, ![1024, 512]⟩

abbrev nBuf : Space → Nat
  | .hbm => 63
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x2048, .f32⟩
  | .hbm, ⟨3, _⟩ => ⟨S512x2048, .f32⟩
  | .hbm, ⟨4, _⟩ => ⟨S2048x512, .f32⟩
  | .hbm, ⟨5, _⟩ => ⟨S512x512, .f32⟩
  | .hbm, ⟨6, _⟩ => ⟨S512x2048, .f32⟩
  | .hbm, ⟨7, _⟩ => ⟨S512x2048, .f32⟩
  | .hbm, ⟨8, _⟩ => ⟨S2048x512, .f32⟩
  | .hbm, ⟨9, _⟩ => ⟨S512x512, .f32⟩
  | .hbm, ⟨10, _⟩ => ⟨S256x512, .f32⟩
  | .hbm, ⟨11, _⟩ => ⟨S256x512, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .i32⟩
  | .hbm, ⟨30, _⟩ => ⟨S512x512, .i8⟩
  | .hbm, ⟨31, _⟩ => ⟨S512x512, .i32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S256x512, .f32⟩
  | .hbm, ⟨37, _⟩ => ⟨S256x512, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S512x512, .f32⟩
  | .hbm, ⟨51, _⟩ => ⟨S512x512, .f32⟩
  | .hbm, ⟨52, _⟩ => ⟨S_, .f32⟩
  | .hbm, ⟨53, _⟩ => ⟨S512x512, .f32⟩
  | .hbm, ⟨54, _⟩ => ⟨S512x512, .f32⟩
  | .hbm, ⟨55, _⟩ => ⟨S512x512, .i32⟩
  | .hbm, ⟨56, _⟩ => ⟨S512x512, .i8⟩
  | .hbm, ⟨57, _⟩ => ⟨S512x512, .i32⟩
  | .hbm, ⟨58, _⟩ => ⟨S512x512, .f32⟩
  | .hbm, ⟨59, _⟩ => ⟨S512x512, .f32⟩
  | .hbm, ⟨60, _⟩ => ⟨S512x512, .f32⟩
  | .hbm, ⟨61, _⟩ => ⟨S512x512, .f32⟩
  | .hbm, ⟨62, _⟩ => ⟨S1024x512, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_cst_8 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]
-- ==== Proof.Protocol.lean ====
/-
# The exchange between the two devices of a pair

Device `c` computes its partial product of the two halves of the rows, rounds each half to signed bytes with one scale,
and sends the rounded half and the scale to the device it is paired with, `peer c`.  Three transfers leave each device:
the first 256 rows, the scale tile, the last 256 rows.  Before any of them a device tells its peer, on the peer's barrier
semaphore, that its landing regions are free.

This module states that protocol: the regions, the contents each transfer carries, the seven cells of a device
(barrier; three send cells; three receive cells), their one-round schedule, what each device owes at launch and the levels
that order the waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.ViewIndex
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's cells, the pair's cells, the local transfers' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The pairs -/

/-- The device a device exchanges with: the other one on the first mesh axis. -/
def peer (c : Dev nD) : Dev nD :=
  ⟨(4 * ((c.val / 4) % 4) + (c.val % 4) + 16) - 16 * (c.val / 16), by
    have h : nD = 32 := rfl
    have := c.isLt
    omega⟩

theorem peer_peer (c : Dev nD) : peer (peer c) = c := by revert c; decide

def pairing : Dev nD ≃ Dev nD := ⟨peer, peer, peer_peer, peer_peer⟩

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)

/-! ## The memrefs and their rectangles -/

abbrev aM : Memref sig .tc .hbm S512x2048 .f32 := Memref.whole main_arg0
abbrev bM : Memref sig .tc .hbm S512x2048 .f32 := Memref.whole main_arg1
abbrev oM : Memref sig .tc .vmem S512x512 .f32 := Memref.whole cc0_stg0_0
abbrev xM : Memref sig .tc .vmem S512x2048 .f32 := Memref.whole cc0_scratch0
abbrev wM : Memref sig .tc .vmem S512x2048 .f32 := Memref.whole cc0_scratch1
abbrev qM : Memref sig .tc .vmem S2x512x512 .i8 := Memref.whole cc0_scratch2
abbrev sM : Memref sig .tc .vmem S2x8x128 .f32 := Memref.whole cc0_scratch3

/-- The two halves of the rows of an input block. -/
abbrev rX0 : Rect S512x2048 := Rect.unit (s := S512x2048) ![0, 0] S256x2048.size inb_S512x2048_S256x2048_0_0
abbrev rX1 : Rect S512x2048 := Rect.unit (s := S512x2048) ![256, 0] S256x2048.size inb_S512x2048_S256x2048_256_0
abbrev rW : Rect S512x2048 := Rect.unit (s := S512x2048) ![0, 0] S512x2048.size inb_S512x2048_S512x2048_0_0
/-- The two halves of the rows of the result block. -/
abbrev rO0 : Rect S512x512 := Rect.unit (s := S512x512) ![0, 0] S256x512.size inb_S512x512_S256x512_0_0
abbrev rO1 : Rect S512x512 := Rect.unit (s := S512x512) ![256, 0] S256x512.size inb_S512x512_S256x512_256_0
/-- The byte buffer's slot 0 (sent) and slot 1 (landed), each in two halves. -/
abbrev rQ00 : Rect S2x512x512 := Rect.unit (s := S2x512x512) ![0, 0, 0] S1x256x512.size inb_S2x512x512_S1x256x512_0_0_0
abbrev rQ01 : Rect S2x512x512 := Rect.unit (s := S2x512x512) ![0, 256, 0] S1x256x512.size inb_S2x512x512_S1x256x512_0_256_0
abbrev rQ10 : Rect S2x512x512 := Rect.unit (s := S2x512x512) ![1, 0, 0] S1x256x512.size inb_S2x512x512_S1x256x512_1_0_0
abbrev rQ11 : Rect S2x512x512 := Rect.unit (s := S2x512x512) ![1, 256, 0] S1x256x512.size inb_S2x512x512_S1x256x512_1_256_0
/-- The scale buffer's slot 0 (sent), slot 1 (landed) and the landed slot's corner. -/
abbrev rS0 : Rect S2x8x128 := Rect.unit (s := S2x8x128) ![0, 0, 0] S1x8x128.size inb_S2x8x128_S1x8x128_0_0_0
abbrev rS1 : Rect S2x8x128 := Rect.unit (s := S2x8x128) ![1, 0, 0] S1x8x128.size inb_S2x8x128_S1x8x128_1_0_0
abbrev rS1c : Rect S2x8x128 := Rect.unit (s := S2x8x128) ![1, 0, 0] S1x1x1.size inb_S2x8x128_S1x1x1_1_0_0

/-- A half of a byte slot, and a scale slot, as a transfer names them. -/
abbrev qS (r : Rect S2x512x512) (h : ∀ a, r.stride a = 1) (hq : r.shape.Squeezes S256x512) : Memref sig .tc .vmem S256x512 .i8 :=
  (qM.slice r h).squeeze S256x512 hq
abbrev sS (r : Rect S2x8x128) (h : ∀ a, r.stride a = 1) (hq : r.shape.Squeezes S8x128) : Memref sig .tc .vmem S8x128 .f32 :=
  (sM.slice r h).squeeze S8x128 hq

/-! ## The cells -/

abbrev barS : Sem sig := (SemArray.scalar (sig.barrier 0 rfl) : Sems sig S_).sem
/-- Element `k` of a pair of transfer semaphores. -/
abbrev nth0 (a : DmaSems sig S2) : DmaSem sig := ((a.slice (Rect.unit (s := S2) ![0] S1.size inb_S2_S1_0)).squeeze S_ squeezes_S1_S_).sem
abbrev nth1 (a : DmaSems sig S2) : DmaSem sig := ((a.slice (Rect.unit (s := S2) ![1] S1.size inb_S2_S1_1)).squeeze S_ squeezes_S1_S_).sem

/-- The pair's cells of one device: its barrier; the send cells of the two halves; the receive cells of the two halves;
    the scale's send and receive cells. -/
abbrev csem : Fin 7 → SemLoc sig := fun
  | 0 => .reg barS
  | 1 => .dma (nth0 cc0_scratch5) | 2 => .dma (nth1 cc0_scratch5)
  | 3 => .dma (nth0 cc0_scratch6) | 4 => .dma (nth1 cc0_scratch6)
  | 5 => .dma cc0_scratch7.sem | 6 => .dma cc0_scratch8.sem
/-- The kernel's own scoped semaphores: the two local transfers' and the pair's six. -/
abbrev osem : Fin 8 → SemLoc sig := fun
  | 0 => .dma (nth0 cc0_scratch4) | 1 => .dma (nth1 cc0_scratch4)
  | 2 => .dma (nth0 cc0_scratch5) | 3 => .dma (nth1 cc0_scratch5)
  | 4 => .dma (nth0 cc0_scratch6) | 5 => .dma (nth1 cc0_scratch6)
  | 6 => .dma cc0_scratch7.sem | 7 => .dma cc0_scratch8.sem

abbrev kcell (ck : Dev nD × Fin 7) : GSem nD τ sig := ((ck.1 : Thread nD τ), csem ck.2)

theorem csem_injective : Function.Injective csem := by decide

theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Which of a device's cells a semaphore is. -/
def cix (s : SemLoc sig) : Fin 7 :=
  if s = csem 0 then 0 else if s = csem 1 then 1 else if s = csem 2 then 2 else if s = csem 3 then 3
  else if s = csem 4 then 4 else if s = csem 5 then 5 else 6

theorem cix_csem (k : Fin 7) : cix (csem k) = k := by revert k; decide

/-- What a transfer of half a byte slot credits, and of a scale slot. -/
abbrev NQ : ℕ := (qS rQ10 (fun _ => rfl) squeezes_S1x256x512_S256x512).view.dmaCredit
abbrev NS : ℕ := (sS rS1 (fun _ => rfl) squeezes_S1x8x128_S8x128).view.dmaCredit
theorem NQ_pos : 0 < NQ := View.dmaCredit_pos _ (by decide)
theorem NS_pos : 0 < NS := View.dmaCredit_pos _ (by decide)

/-- Each cell's amount. -/
def amt : Fin 7 → ℕ := fun | 0 => 1 | 1 => NQ | 2 => NQ | 3 => NQ | 4 => NQ | 5 => NS | 6 => NS
theorem amt_pos (k : Fin 7) : 0 < amt k := by
  fin_cases k
  · exact Nat.one_pos
  · exact NQ_pos
  · exact NQ_pos
  · exact NQ_pos
  · exact NQ_pos
  · exact NS_pos
  · exact NS_pos

/-! ## Contents -/

/-- The two halves of the device's block of `dy`, and its block of `W`. -/
def x0 (c : Dev nD) : Vec F S256x2048 .f32 := (aM.access rX0).read (Elt F) (m ((c : Thread nD τ).loc main_arg0))
def x1 (c : Dev nD) : Vec F S256x2048 .f32 := (aM.access rX1).read (Elt F) (m ((c : Thread nD τ).loc main_arg0))
def wv (c : Dev nD) : Vec F S512x2048 .f32 := m ((c : Thread nD τ).loc main_arg1)

/-- What the device sends: the first half's bytes, the scale tile, the second half's bytes. -/
def q0 (c : Dev nD) : Vec F S1x256x512 .i8 := k0_pay5 (x0 m c) (wv m c)
def sc (c : Dev nD) : Vec F S1x8x128 .f32 := k0_pay6 (x0 m c) (wv m c)
def q1 (c : Dev nD) : Vec F S1x256x512 .i8 := k0_pay9 (k0_pay8 (k0_pay4 (x0 m c) (wv m c)) (x1 m c) (wv m c))

/-- The corner of a scale tile. -/
def corner (x : S1x1x1.Idx) : S1x8x128.Idx := fun a => match a with
  | ⟨0, _⟩ => ⟨0, (by decide : 0 < 1)⟩
  | ⟨1, _⟩ => ⟨0, (by decide : 0 < 8)⟩
  | ⟨2, _⟩ => ⟨0, (by decide : 0 < 128)⟩
def sc1 (c : Dev nD) : Vec F S1x1x1 .f32 := fun x => sc m c (corner x)

/-- The two halves of the device's result: its own partial and its peer's bytes scaled back. -/
def y0 (c : Dev nD) : Vec F S256x512 .f32 := k0_pay11 (k0_pay2 (x0 m c) (wv m c)) (k0_pay10 (sc1 m (peer c))) (q0 m (peer c))
def y1 (c : Dev nD) : Vec F S256x512 .f32 := k0_pay1 (k0_pay7 (x1 m c) (wv m c)) (k0_pay12 (sc1 m (peer c))) (q1 m (peer c))

/-- The device's result block. -/
def outAt (c : Dev nD) : Vec F S512x512 .f32 := fun i =>
  if h : (i 0).val < 256 then y0 m c (fun a => match a with
    | ⟨0, _⟩ => ⟨(i 0).val, h⟩
    | ⟨1, _⟩ => ⟨(i 1).val, (i 1).isLt⟩)
  else y1 m c (fun a => match a with
    | ⟨0, _⟩ => ⟨(i 0).val - 256, by have h2 : (i 0).val < 512 := (i 0).isLt; show _ < 256; omega⟩
    | ⟨1, _⟩ => ⟨(i 1).val, (i 1).isLt⟩)

/-! ## The regions held -/

abbrev qPts (c : Dev nD) (r : Rect S2x512x512) (f : Buf (Elt F) ((qM.access r).loc (c : Thread nD τ))) : sProp 𝕄 :=
  (qM.access r).loc (c : Thread nD τ) ↦[(qM.access r).set]{fullShare} f
abbrev sPts (c : Dev nD) (r : Rect S2x8x128) (f : Buf (Elt F) ((sM.access r).loc (c : Thread nD τ))) : sProp 𝕄 :=
  (sM.access r).loc (c : Thread nD τ) ↦[(sM.access r).set]{fullShare} f

/-- A region at some contents, and a region at contents that read as `w`. -/
def qAny (c : Dev nD) (r : Rect S2x512x512) : sProp 𝕄 := iprop(∃ f, qPts c r f)
def sAny (c : Dev nD) (r : Rect S2x8x128) : sProp 𝕄 := iprop(∃ f, sPts c r f)
def qHas (c : Dev nD) (r : Rect S2x512x512) (w : r.shape.Idx → Elt F .i8) : sProp 𝕄 :=
  iprop(∃ f, ⌜(qM.access r).read (Elt F) f = w⌝ ∗ qPts c r f)
def sHas (c : Dev nD) (r : Rect S2x8x128) (w : r.shape.Idx → Elt F .f32) : sProp 𝕄 :=
  iprop(∃ f, ⌜(sM.access r).read (Elt F) f = w⌝ ∗ sPts c r f)

omit [FloatOps F] in
instance qAny_storable (c : Dev nD) (r) : BI.Storable (upEmb : UEmb _ 𝕄) (qAny (F := F) c r) := by unfold qAny; infer_instance
omit [FloatOps F] in
instance sAny_storable (c : Dev nD) (r) : BI.Storable (upEmb : UEmb _ 𝕄) (sAny (F := F) c r) := by unfold sAny; infer_instance
omit [FloatOps F] in
instance qHas_storable (c : Dev nD) (r w) : BI.Storable (upEmb : UEmb _ 𝕄) (qHas (F := F) c r w) := by unfold qHas; infer_instance
omit [FloatOps F] in
instance sHas_storable (c : Dev nD) (r w) : BI.Storable (upEmb : UEmb _ 𝕄) (sHas (F := F) c r w) := by unfold sHas; infer_instance

/-! ## The schedule -/

/-- What waiting on each of device `c`'s cells hands it: on its barrier, its peer's three landing regions; on a send
    cell, its own region back; on a receive cell, the landing region with what its peer sent. -/
def pay (c : Dev nD) : Fin 7 → sProp 𝕄 := fun
  | 0 => iprop(qAny (peer c) rQ10 ∗ qAny (peer c) rQ11 ∗ sAny (peer c) rS1)
  | 1 => qAny c rQ00
  | 2 => qAny c rQ01
  | 3 => qHas c rQ10 (q0 m (peer c))
  | 4 => qHas c rQ11 (q1 m (peer c))
  | 5 => sAny c rS0
  | 6 => sHas c rS1 (sc m (peer c))

instance pay_storable (c : Dev nD) (k : Fin 7) : BI.Storable (upEmb : UEmb _ 𝕄) (pay m c k) := by
  fin_cases k <;> (dsimp only [pay]; infer_instance)

abbrev IsCell (g : GSem nD τ sig) : Prop := g.1.2 = .tc ∧ ∃ k : Fin 7, g.2 = csem k

/-- One round: every cell of the pair has one duty, of its amount and with its payload. -/
def Rd : Rounds.Schedule (GSem nD τ sig) Unit 𝕄 where
  duties g r := if r = 0 ∧ IsCell g then {()} else ∅
  unitless _ := False
  amount g _ _ := amt (cix g.2)
  payload g _ _ := pay m g.1.1 (cix g.2)
  amount_pos g _ _ _ := amt_pos _

instance Rd_payload_storable (g : GSem nD τ sig) (r : ℕ) (d : Unit) :
    BI.Storable (upEmb : UEmb _ 𝕄) ((Rd (F := F) m).payload g r d) := by
  show BI.Storable upEmb (pay m g.1.1 (cix g.2))
  infer_instance

section Sched
variable (c : Dev nD) (k : Fin 7)

theorem duties_cell : (Rd (F := F) m).duties (kcell (c, k)) 0 = {()} := by
  dsimp only [Rd]; exact if_pos ⟨rfl, rfl, k, rfl⟩
theorem mem_duties : () ∈ (Rd (F := F) m).duties (kcell (c, k)) 0 := by rw [duties_cell]; exact Finset.mem_singleton_self _
theorem duties_later (g : GSem nD τ sig) : ∀ r, 1 ≤ r → (Rd (F := F) m).duties g r = ∅ :=
  fun r hr => by dsimp only [Rd]; rw [if_neg fun h => by omega]
theorem amount_cell : (Rd (F := F) m).amount (kcell (c, k)) 0 () = amt k := by dsimp only [Rd]; rw [cix_csem]
theorem expect_cell : (Rd (F := F) m).expect (kcell (c, k)) 0 = amt k := by
  unfold Schedule.expect Schedule.amountOf; rw [duties_cell, Finset.sum_singleton, amount_cell]
theorem payload_cell : (Rd (F := F) m).payload (kcell (c, k)) 0 () = pay m c k := by dsimp only [Rd]; rw [cix_csem]
theorem rest_cell : bigSep ((Rd (F := F) m).duties (kcell (c, k)) 0 \ ∅) (fun d => (Rd (F := F) m).payload (kcell (c, k)) 0 d) = pay m c k := by
  rw [Finset.sdiff_empty, duties_cell, bigSep_singleton, payload_cell]

end Sched

/-! ## What each device owes at launch; the levels -/

/-- A credit device `c` owes cell `k` of its peer. -/
abbrev due (c : Dev nD) (k : Fin 7) : CellTallies nD τ sig Unit := tallyAt (kcell (peer c, k)) () (amt k)

/-- What is owed when only the second half is still to be sent; the scale too; the first half too; the barrier too. -/
def O₃ (c : Dev nD) : CellTallies nD τ sig Unit := due c 4
def O₂ (c : Dev nD) : CellTallies nD τ sig Unit := O₃ c + due c 6
def O₁ (c : Dev nD) : CellTallies nD τ sig Unit := O₂ c + due c 3
def O₀ (c : Dev nD) : CellTallies nD τ sig Unit := O₁ c + due c 0

def L (g : GSem nD τ sig) : Finset Unit := if g.1.2 = .tc then {()} else ∅
/-- A semaphore's level: a barrier at 1, the three receive cells at 2, everything else at 0. -/
def lvS (s : SemLoc sig) : ℕ := if s = csem 0 then 1 else if s = csem 3 ∨ s = csem 4 ∨ s = csem 6 then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem due_pos {c : Dev nD} {k : Fin 7} {g : GSem nD τ sig} {u : Unit} (h : 0 < due c k g u) : g = kcell (peer c, k) := by
  rw [tallyAt_apply] at h
  by_contra hn
  rw [if_neg (fun h' => hn h'.1)] at h
  exact Nat.lt_irrefl 0 h

theorem add_pos_or {O O' : CellTallies nD τ sig Unit} {g : GSem nD τ sig} {u : Unit} (h : 0 < (O + O') g u) : 0 < O g u ∨ 0 < O' g u := by
  rw [Pi.add_apply, Finsupp.add_apply] at h; omega

theorem O₃_pos {c : Dev nD} {g : GSem nD τ sig} {u : Unit} (h : 0 < O₃ c g u) : ∃ k, (k = 3 ∨ k = 4 ∨ k = 6) ∧ g = kcell (peer c, k) :=
  ⟨4, .inr (.inl rfl), due_pos h⟩
theorem O₂_pos {c : Dev nD} {g : GSem nD τ sig} {u : Unit} (h : 0 < O₂ c g u) : ∃ k, (k = 3 ∨ k = 4 ∨ k = 6) ∧ g = kcell (peer c, k) :=
  (add_pos_or h).elim O₃_pos fun h => ⟨6, .inr (.inr rfl), due_pos h⟩
theorem O₁_pos {c : Dev nD} {g : GSem nD τ sig} {u : Unit} (h : 0 < O₁ c g u) : ∃ k, (k = 3 ∨ k = 4 ∨ k = 6) ∧ g = kcell (peer c, k) :=
  (add_pos_or h).elim O₂_pos fun h => ⟨3, .inl rfl, due_pos h⟩
theorem O₀_pos {c : Dev nD} {g : GSem nD τ sig} {u : Unit} (h : 0 < O₀ c g u) : ∃ k, (k = 0 ∨ k = 3 ∨ k = 4 ∨ k = 6) ∧ g = kcell (peer c, k) :=
  (add_pos_or h).elim (fun h => (O₁_pos h).imp fun _ h => ⟨.inr h.1, h.2⟩) fun h => ⟨0, .inl rfl, due_pos h⟩

theorem lvS_recv {k : Fin 7} (h : k = 3 ∨ k = 4 ∨ k = 6) : lvS (csem k) = 2 := by revert k; decide
theorem lvS_owed {k : Fin 7} (h : k = 0 ∨ k = 3 ∨ k = 4 ∨ k = 6) : 0 < lvS (csem k) := by revert k; decide

/-- A wait on a semaphore whose level is below every cell owed is allowed. -/
theorem mayWait_below (c : Dev nD) (s : SemLoc sig) (O : CellTallies nD τ sig Unit)
    (hO : ∀ g u, 0 < O g u → ∃ k, lvS s < lvS (csem k) ∧ g = kcell (peer c, k)) :
    (levAts L lv : sProp 𝕄) ⊢ MayWait (c : Thread nD τ) s () O :=
  MayOwe.of_cut (L := L) (lev := lv) (lvS s) (fun p hp => by rw [Finset.mem_singleton.mp hp, L_tc]; exact Finset.mem_singleton_self _)
    (fun g u hg => by obtain ⟨k, _, rfl⟩ := hO g u hg; exact Finset.mem_singleton_self _)
    (fun p hp => by rw [Finset.mem_singleton.mp hp]; exact Nat.le_refl _)
    (fun g u hg => by obtain ⟨k, hk, rfl⟩ := hO g u hg; exact hk)

/-- A semaphore at level 0 may be waited on whatever of the launch debt is left; -/
theorem mayWait_O₀ (c : Dev nD) (s : SemLoc sig) (h : lvS s = 0) : (levAts L lv : sProp 𝕄) ⊢ MayWait (c : Thread nD τ) s () (O₀ c) :=
  mayWait_below c s _ fun g u hg => (O₀_pos hg).imp fun _ hk => ⟨h ▸ lvS_owed hk.1, hk.2⟩
theorem mayWait_O₁ (c : Dev nD) (s : SemLoc sig) (h : lvS s < 2) : (levAts L lv : sProp 𝕄) ⊢ MayWait (c : Thread nD τ) s () (O₁ c) :=
  mayWait_below c s _ fun g u hg => by obtain ⟨k, hk, e⟩ := O₁_pos hg; exact ⟨k, by rw [lvS_recv hk]; exact h, e⟩
theorem mayWait_O₃ (c : Dev nD) (s : SemLoc sig) (h : lvS s < 2) : (levAts L lv : sProp 𝕄) ⊢ MayWait (c : Thread nD τ) s () (O₃ c) :=
  mayWait_below c s _ fun g u hg => by obtain ⟨k, hk, e⟩ := O₃_pos hg; exact ⟨k, by rw [lvS_recv hk]; exact h, e⟩

end Cert.Exchange

end
-- ==== Proof.Regions.lean ====
/-
# The regions of the exchange

How the buffers split into the parts the transfers use and join again; what a region reads after a store, a local
transfer or a transfer from the peer; and that the two stores of the result are the result block, whatever was there.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Re-indexed transfers -/

/-- A transfer between two views of one shape, both re-indexed the same way, carries what the source view reads. -/
theorem read_write_reshaped {κ κ' : Kind} {sp sp' : Space} {s s' : Shape} {e : EltTy} (Val : EltTy → Type)
    (v : View sig κ sp s e) (v' : View sig κ' sp' s e) (h : s'.numel = s.numel) (fs : v.ty.Contents Val) (fd : v'.ty.Contents Val) :
    v'.read Val ((v'.reshape s' h).write Val fd ((v.reshape s' h).read Val fs) Finset.univ) = v.read Val fs := by
  rw [View.write_reshape_univ, View.read_write_univ]
  funext x
  rw [View.read_apply, View.read_apply, View.emb_reshape]
  simp only [Function.Embedding.trans_apply, Equiv.coe_toEmbedding, Equiv.apply_symm_apply]

/-! ## Disjoint rectangles -/

theorem sub_sdiff {α : Type} [DecidableEq α] {I S J : Finset α} (h : I ⊆ S) (hd : Disjoint I J) : I ⊆ S \ J :=
  Finset.subset_sdiff.mpr ⟨h, hd⟩

theorem dX : Disjoint (xM.access rX1).set (xM.access rX0).set :=
  View.disjoint_slice (Rect.unit_disjoint 0 (Or.inr (by decide)))
theorem dQ01_00 : Disjoint (qM.access rQ01).set (qM.access rQ00).set :=
  View.disjoint_slice (Rect.unit_disjoint 1 (Or.inr (by decide)))
theorem dQ10_00 : Disjoint (qM.access rQ10).set (qM.access rQ00).set :=
  View.disjoint_slice (Rect.unit_disjoint 0 (Or.inr (by decide)))
theorem dQ10_01 : Disjoint (qM.access rQ10).set (qM.access rQ01).set :=
  View.disjoint_slice (Rect.unit_disjoint 0 (Or.inr (by decide)))
theorem dQ11_00 : Disjoint (qM.access rQ11).set (qM.access rQ00).set :=
  View.disjoint_slice (Rect.unit_disjoint 0 (Or.inr (by decide)))
theorem dQ11_01 : Disjoint (qM.access rQ11).set (qM.access rQ01).set :=
  View.disjoint_slice (Rect.unit_disjoint 0 (Or.inr (by decide)))
theorem dQ11_10 : Disjoint (qM.access rQ11).set (qM.access rQ10).set :=
  View.disjoint_slice (Rect.unit_disjoint 1 (Or.inr (by decide)))
theorem dS : Disjoint (sM.access rS1).set (sM.access rS0).set :=
  View.disjoint_slice (Rect.unit_disjoint 0 (Or.inr (by decide)))

/-! ## Splitting and joining the buffers -/

abbrev xLoc (c : Dev nD) : Loc nD τ sig := (c : Thread nD τ).loc cc0_scratch0
abbrev wLoc (c : Dev nD) : Loc nD τ sig := (c : Thread nD τ).loc cc0_scratch1
abbrev qLoc (c : Dev nD) : Loc nD τ sig := (c : Thread nD τ).loc cc0_scratch2
abbrev sLoc (c : Dev nD) : Loc nD τ sig := (c : Thread nD τ).loc cc0_scratch3
abbrev aLoc (c : Dev nD) : Loc nD τ sig := (c : Thread nD τ).loc main_arg0
abbrev bLoc (c : Dev nD) : Loc nD τ sig := (c : Thread nD τ).loc main_arg1
abbrev oLoc (c : Dev nD) : Loc nD τ sig := (c : Thread nD τ).loc cc0_stg0_0

/-- What is left of the input buffer outside its first half, of the byte buffer outside the four halves of slots, of the
    scale buffer outside the two slots. -/
abbrev xRest : Finset (xM.access rX0).ty.Idx := Finset.univ \ (xM.access rX0).set
abbrev qRest : Finset (qM.access rQ00).ty.Idx :=
  (((Finset.univ \ (qM.access rQ00).set) \ (qM.access rQ01).set) \ (qM.access rQ10).set) \ (qM.access rQ11).set
abbrev sRest : Finset (sM.access rS0).ty.Idx := (Finset.univ \ (sM.access rS0).set) \ (sM.access rS1).set

def qLeft (c : Dev nD) : sProp 𝕄 := iprop(∃ f, qLoc c ↦[qRest]{fullShare} f)
def sLeft (c : Dev nD) : sProp 𝕄 := iprop(∃ f, sLoc c ↦[sRest]{fullShare} f)

omit [FloatOps F] in
theorem q_split (c : Dev nD) :
    (iprop(∃ f, qLoc c ↦{fullShare} f) : sProp 𝕄) ⊢ iprop(qAny c rQ00 ∗ qAny c rQ01 ∗ qAny c rQ10 ∗ qAny c rQ11 ∗ qLeft c) := by
  iintro ⟨%f, H⟩
  ihave H := (pointsTo_split_subset (ℓ := qLoc c) (I := (qM.access rQ00).set) (Finset.subset_univ _)).1 $$ H
  icases H with ⟨H0, H⟩
  ihave H := (pointsTo_split_subset (ℓ := qLoc c) (I := (qM.access rQ01).set) (sub_sdiff (Finset.subset_univ _) dQ01_00)).1 $$ H
  icases H with ⟨H1, H⟩
  ihave H := (pointsTo_split_subset (ℓ := qLoc c) (I := (qM.access rQ10).set)
    (sub_sdiff (sub_sdiff (Finset.subset_univ _) dQ10_00) dQ10_01)).1 $$ H
  icases H with ⟨H2, H⟩
  ihave H := (pointsTo_split_subset (ℓ := qLoc c) (I := (qM.access rQ11).set)
    (sub_sdiff (sub_sdiff (sub_sdiff (Finset.subset_univ _) dQ11_00) dQ11_01) dQ11_10)).1 $$ H
  icases H with ⟨H3, H⟩
  unfold qAny qLeft
  isplitl [H0]; · iexists f; iexact H0
  isplitl [H1]; · iexists f; iexact H1
  isplitl [H2]; · iexists f; iexact H2
  isplitl [H3]; · iexists f; iexact H3
  iexists f; iexact H

omit [FloatOps F] in
theorem q_join (c : Dev nD) :
    (iprop(qAny c rQ00 ∗ qAny c rQ01 ∗ qAny c rQ10 ∗ qAny c rQ11 ∗ qLeft c) : sProp 𝕄) ⊢ iprop(∃ f, qLoc c ↦{fullShare} f) := by
  unfold qAny qLeft
  iintro ⟨⟨%f0, H0⟩, ⟨%f1, H1⟩, ⟨%f2, H2⟩, ⟨%f3, H3⟩, ⟨%f, H⟩⟩
  ihave H := (pointsTo_join_subset (ℓ := qLoc c) (I := (qM.access rQ11).set) (g := f3) (f := f)
    (sub_sdiff (sub_sdiff (sub_sdiff (Finset.subset_univ _) dQ11_00) dQ11_01) dQ11_10)) $$ [H3 H]
  · isplitl [H3] <;> iassumption
  ihave H := (pointsTo_join_subset (ℓ := qLoc c) (I := (qM.access rQ10).set) (g := f2)
    (sub_sdiff (sub_sdiff (Finset.subset_univ _) dQ10_00) dQ10_01)) $$ [H2 H]
  · isplitl [H2] <;> iassumption
  ihave H := (pointsTo_join_subset (ℓ := qLoc c) (I := (qM.access rQ01).set) (g := f1) (sub_sdiff (Finset.subset_univ _) dQ01_00)) $$ [H1 H]
  · isplitl [H1] <;> iassumption
  ihave H := (pointsTo_join_subset (ℓ := qLoc c) (I := (qM.access rQ00).set) (g := f0) (Finset.subset_univ _)) $$ [H0 H]
  · isplitl [H0] <;> iassumption
  iexists _; iexact H

omit [FloatOps F] in
theorem s_split (c : Dev nD) :
    (iprop(∃ f, sLoc c ↦{fullShare} f) : sProp 𝕄) ⊢ iprop(sAny c rS0 ∗ sAny c rS1 ∗ sLeft c) := by
  iintro ⟨%f, H⟩
  ihave H := (pointsTo_split_subset (ℓ := sLoc c) (I := (sM.access rS0).set) (Finset.subset_univ _)).1 $$ H
  icases H with ⟨H0, H⟩
  ihave H := (pointsTo_split_subset (ℓ := sLoc c) (I := (sM.access rS1).set) (sub_sdiff (Finset.subset_univ _) dS)).1 $$ H
  icases H with ⟨H1, H⟩
  unfold sAny sLeft
  isplitl [H0]; · iexists f; iexact H0
  isplitl [H1]; · iexists f; iexact H1
  iexists f; iexact H

omit [FloatOps F] in
theorem s_join (c : Dev nD) :
    (iprop(sAny c rS0 ∗ sAny c rS1 ∗ sLeft c) : sProp 𝕄) ⊢ iprop(∃ f, sLoc c ↦{fullShare} f) := by
  unfold sAny sLeft
  iintro ⟨⟨%f0, H0⟩, ⟨%f1, H1⟩, ⟨%f, H⟩⟩
  ihave H := (pointsTo_join_subset (ℓ := sLoc c) (I := (sM.access rS1).set) (g := f1) (f := f) (sub_sdiff (Finset.subset_univ _) dS)) $$ [H1 H]
  · isplitl [H1] <;> iassumption
  ihave H := (pointsTo_join_subset (ℓ := sLoc c) (I := (sM.access rS0).set) (g := f0) (Finset.subset_univ _)) $$ [H0 H]
  · isplitl [H0] <;> iassumption
  iexists _; iexact H

/-! ## The squeezed regions are the regions -/

section Squeezed
variable (c : Dev nD)

omit [FloatOps F] in
theorem qS_pts (r : Rect S2x512x512) (h hq) (f : Buf (Elt F) (qLoc c)) :
    (((qS r h hq).view.loc (c : Thread nD τ) ↦[(qS r h hq).view.set]{fullShare} f) : sProp 𝕄) = qPts c r f := by
  show ((qLoc c) ↦[((qM.access r).reshape S256x512 hq.numel_eq).set]{fullShare} f : sProp 𝕄) = _
  rw [View.set_reshape]
omit [FloatOps F] in
theorem sS_pts (r : Rect S2x8x128) (h hq) (f : Buf (Elt F) (sLoc c)) :
    (((sS r h hq).view.loc (c : Thread nD τ) ↦[(sS r h hq).view.set]{fullShare} f) : sProp 𝕄) = sPts c r f := by
  show ((sLoc c) ↦[((sM.access r).reshape S8x128 hq.numel_eq).set]{fullShare} f : sProp 𝕄) = _
  rw [View.set_reshape]

end Squeezed

/-! ## The landed scale's corner -/

omit [FloatOps F] in
theorem corner_sub : (sM.access rS1c).set ⊆ (sM.access rS1).set := by
  rw [View.set_slice_whole, View.set_slice_whole]
  intro i hi
  rw [Rect.mem_set_unit] at hi ⊢
  intro a
  have := hi a
  fin_cases a <;> exact ⟨this.1, lt_of_lt_of_le this.2 (by decide)⟩

theorem read_corner (c : Dev nD) (f : Buf (Elt F) (sLoc c)) (p : Dev nD)
    (hf : (sM.access rS1).read (Elt F) f = sc m p) : (sM.access rS1c).read (Elt F) f = sc1 m p := by
  funext x
  have e : rS1c.emb x = rS1.emb (corner x) := by
    refine funext fun a => Fin.ext ?_
    have h0 : (x 0).val = 0 := Nat.lt_one_iff.mp (x 0).isLt
    have h1 : (x 1).val = 0 := Nat.lt_one_iff.mp (x 1).isLt
    have h2 : (x 2).val = 0 := Nat.lt_one_iff.mp (x 2).isLt
    fin_cases a
    · show 1 + 1 * (x 0).val = 1 + 1 * 0; rw [h0]
    · show 0 + 1 * (x 1).val = 0 + 1 * 0; rw [h1]
    · show 0 + 1 * (x 2).val = 0 + 1 * 0; rw [h2]
  have h2 := congrFun hf (corner x)
  show f (rS1c.emb x) = sc m p (corner x)
  rw [e]; exact h2

/-! ## The result block -/

theorem out_eq (c : Dev nD) (g : Vec F S512x512 .f32) :
    (oM.access rO1).write (Elt F) ((oM.access rO0).write (Elt F) g (y0 m c) Finset.univ) (y1 m c) Finset.univ = outAt m c := by
  funext i
  by_cases h : (i 0).val < 256
  · rw [View.write_of_not_mem]
    · unfold outAt; rw [dif_pos h]
      have e : i = (oM.access rO0).emb (fun a => match a with
          | ⟨0, _⟩ => ⟨(i 0).val, h⟩
          | ⟨1, _⟩ => ⟨(i 1).val, (i 1).isLt⟩) := by
        refine funext fun a => Fin.ext ?_
        fin_cases a
        · show (i 0).val = 0 + 1 * (i 0).val; omega
        · show (i 1).val = 0 + 1 * (i 1).val; omega
      conv_lhs => rw [e, View.write_emb_of_mem _ _ (Finset.mem_univ _)]
      rfl
    · rw [View.setOn_univ, View.set_slice_whole, Rect.mem_set_unit]
      intro hm
      have : 256 ≤ (i 0).val := (hm 0).1
      omega
  · unfold outAt; rw [dif_neg h]
    have e : i = (oM.access rO1).emb (fun a => match a with
        | ⟨0, _⟩ => ⟨(i 0).val - 256, by have h2 : (i 0).val < 512 := (i 0).isLt; show _ < 256; omega⟩
        | ⟨1, _⟩ => ⟨(i 1).val, (i 1).isLt⟩) := by
      refine funext fun a => Fin.ext ?_
      fin_cases a
      · show (i 0).val = 256 + 1 * ((i 0).val - 256); omega
      · show (i 1).val = 0 + 1 * (i 1).val; omega
    conv_lhs => rw [e, View.write_emb_of_mem _ _ (Finset.mem_univ _)]
    rfl

end Cert.Exchange

end
-- ==== Proof.Body.lean ====
/-
# One device's body

The values the launch works over, the ghost state a device starts from, and the body run from it: the barrier signal
hands the peer the landing regions, the two local transfers bring the inputs, each send hands the peer's landing region
filled to the peer's receive cell, each wait brings a region back.
-/
module

public import proofs.«01_k».proof.Proof.Regions

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The ghost state -/

/-- Every cell's invariant and that round 0 of it is reached, on all devices. -/
def records (K : Dev nD × Fin 7 → ℕ) : sProp 𝕄 :=
  bigSep Finset.univ fun ck => iprop(cellInv ER (Rd m) (K ck) (kcell ck) ∗ reached ER (kcell ck) 0)

instance records_persistent (K : Dev nD × Fin 7 → ℕ) : BI.Persistent (records m K) := by unfold records; infer_instance

theorem records_at (K : Dev nD × Fin 7 → ℕ) (ck : Dev nD × Fin 7) :
    records m K ⊢ iprop(cellInv ER (Rd m) (K ck) (kcell ck) ∗ reached ER (kcell ck) 0) := by
  unfold records; exact bigSep_elim (Finset.mem_univ ck)

/-- A device's position at round 0 of each of its own cells. -/
def positions (c : Dev nD) : sProp 𝕄 :=
  iprop(atPos ER (kcell (c, 0)) 0 ∅ 0 ∗ atPos ER (kcell (c, 1)) 0 ∅ 0 ∗ atPos ER (kcell (c, 2)) 0 ∅ 0 ∗ atPos ER (kcell (c, 3)) 0 ∅ 0
    ∗ atPos ER (kcell (c, 4)) 0 ∅ 0 ∗ atPos ER (kcell (c, 5)) 0 ∅ 0 ∗ atPos ER (kcell (c, 6)) 0 ∅ 0)

/-- The duty tokens a device pays with: its peer's barrier and receive cells', its own send cells'. -/
def payToks (c : Dev nD) : sProp 𝕄 :=
  iprop(dutyTok ER (kcell (peer c, 0)) 0 () ∗ dutyTok ER (kcell (c, 1)) 0 () ∗ dutyTok ER (kcell (c, 2)) 0 () ∗ dutyTok ER (kcell (peer c, 3)) 0 ()
    ∗ dutyTok ER (kcell (peer c, 4)) 0 () ∗ dutyTok ER (kcell (c, 5)) 0 () ∗ dutyTok ER (kcell (peer c, 6)) 0 ())

def ghost (K : Dev nD × Fin 7 → ℕ) (c : Dev nD) : sProp 𝕄 :=
  iprop(records m K ∗ positions c ∗ payToks c ∗ semVal ((c : Thread nD τ), osem 0) 0 ∗ semVal ((c : Thread nD τ), osem 1) 0)

/-- The credit tokens of the cells its peer pays. -/
def creds (c : Dev nD) : sProp 𝕄 :=
  iprop(cred (tallyAt (kcell (c, 0)) () (amt 0)) ∗ cred (tallyAt (kcell (c, 3)) () (amt 3)) ∗ cred (tallyAt (kcell (c, 4)) () (amt 4))
    ∗ cred (tallyAt (kcell (c, 6)) () (amt 6)))

/-- The two argument arrays at their launch contents. -/
def args (c : Dev nD) : sProp 𝕄 := iprop((aLoc c ↦{fullShare} m (aLoc c)) ∗ (bLoc c ↦{fullShare} m (bLoc c)))

/-- The four scratch buffers at some contents. -/
def scratch (c : Dev nD) : sProp 𝕄 :=
  iprop((∃ f, xLoc c ↦{fullShare} f) ∗ (∃ f, wLoc c ↦{fullShare} f) ∗ (∃ f, qLoc c ↦{fullShare} f) ∗ (∃ f, sLoc c ↦{fullShare} f))

def start (c : Dev nD) : sProp 𝕄 := iprop((∃ K, ghost m K c) ∗ creds c ∗ levAts L lv ∗ args m c)

def Φ₀ (c : Dev nD) : sProp 𝕄 := iprop(start m c ∗ scratch c)

/-- The kernel's eight own semaphores and the barrier at zero. -/
def zeros (c : Dev nD) : sProp 𝕄 :=
  iprop((semVal ((c : Thread nD τ), osem 0) 0 ∗ semVal ((c : Thread nD τ), osem 1) 0 ∗ semVal ((c : Thread nD τ), osem 2) 0
    ∗ semVal ((c : Thread nD τ), osem 3) 0 ∗ semVal ((c : Thread nD τ), osem 4) 0 ∗ semVal ((c : Thread nD τ), osem 5) 0
    ∗ semVal ((c : Thread nD τ), osem 6) 0 ∗ semVal ((c : Thread nD τ), osem 7) 0) ∗ semVal (kcell (c, 0)) 0)

def Φ₁ (c : Dev nD) : sProp 𝕄 := iprop(args m c ∗ scratch c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The rules at the pair's cells and regions -/

section Rules

variable (K : Dev nD × Fin 7 → ℕ)

/-- A wait on one of the pair's transfer cells with nothing owed: the payload, and the cell closed at zero. -/
theorem wp_wait_cell (c : Dev nD) (k : Fin 7) {sem : DmaSem sig} (hs : csem k = .dma sem)
    {s s' : Shape} {e e' : EltTy} {sp sp' : Space} {κ' : Kind}
    {srcw : Memref sig (c : Thread nD τ).2.kind sp' s' e'} {dstw : Memref sig κ' sp s e} {hsrc : srcw.view.WordExact} {hdst : dstw.view.WordExact}
    (hN : dstw.view.dmaCredit = amt k) {α : Type} {Q : α → sProp 𝕄} {kk : PUnit → Prog (TpuEff nD τ sig (Elt F) Λ₀ .tc) α} {W : Waits sig Unit} :
    iprop(records m K ∗ cred (tallyAt (kcell (c, k)) () (amt k)) ∗ owes (c : Thread nD τ) 0 W ∗ atPos ER (kcell (c, k)) 0 ∅ 0)
      ⊢ iprop(((owes (c : Thread nD τ) 0 (insert (SemLoc.dma sem, ()) W) ∗ pay m c k ∗ semVal (kcell (c, k)) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem srcw dstw hsrc hdst) kk) Q) := by
  have hc : kcell (c, k) = ((c : Thread nD τ), SemLoc.dma sem) := by show ((c : Thread nD τ), csem k) = _; rw [hs]
  have he := expect_cell m c k
  have hr := rest_cell m c k
  have ha := records_at m K (c, k)
  rw [hc] at he hr ha ⊢
  iintro ⟨#HR, Hc, HO, Hat⟩ Hk
  ihave #HA := ha $$ HR
  icases HA with ⟨#HI, -⟩
  iapply (Rounds.wp_wait_rest_token 𝒱₀ ER (Rd m) (c : Thread nD τ) none (κ := K (c, k))
      (wpE_waitDma2_eq 𝒱₀ (c : Thread nD τ) none Set.univ) (Set.mem_univ _) () (O := 0) (W := W) (R := 0) (m := 0) (T := ∅)
      (by rw [Nat.zero_add, he, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hpay := (Entails.of_eq hr) $$ Hpay
  imod (Rounds.cell_close ER (Rd m) (Set.mem_univ (K (c, k))) (fun h => h) (R := 0 + 1) (duties_later m _)) $$ [Hat] with Hz
  · isplitr; · iexact HI
    iexact Hat
  iapply Hk
  isplitl [HO]; · iexact HO
  isplitl [Hpay] <;> iassumption

/-- A transfer to the peer of a region of a buffer into a region of the peer's: the source is `v` re-indexed, the
    destination `v'`, the source reading as `w`. -/
theorem wp_send_cell (c n : Dev nD) (hn : n = peer c) (ks kr : Fin 7) {a b : DmaSem sig} (ha : csem ks = .dma a) (hb : csem kr = .dma b)
    {sp sp' : Space} {s : Shape} {e : EltTy} {src : Memref sig .tc sp s e} {dst : Memref sig .tc sp' s e}
    (hN : dst.view.amount (.dma b) = amt kr) (hks : amt ks = amt kr)
    {hsc : dst.view.ref.isScScratch = false} {hsrc : src.view.WordExact} {hdst : dst.view.WordExact}
    {hsem : DmaTarget.Typed sp (.dma b) (.remote (Dev.tc n : Thread nD τ) dst (.dma a) hsc)}
    (fs : Buf (Elt F) (src.view.loc (c : Thread nD τ))) (fd : Buf (Elt F) (dst.view.loc (peer c : Thread nD τ)))
    (O' O : CellTallies nD τ sig Unit) (hO : O' = O + due c kr)
    (hps : (src.view.loc (c : Thread nD τ) ↦[src.view.set]{fullShare} fs) ⊢ pay m c ks)
    (hpr : (dst.view.loc (peer c : Thread nD τ) ↦[dst.view.set]{fullShare} dst.view.write (Elt F) fd (src.view.read (Elt F) fs) Finset.univ)
      ⊢ pay m (peer c) kr)
    {α : Type} {Q : α → sProp 𝕄} {kk : PUnit → Prog (TpuEff nD τ sig (Elt F) Λ₀ .tc) α} {W : Waits sig Unit} :
    iprop(records m K ∗ (src.view.loc (c : Thread nD τ) ↦[src.view.set]{fullShare} fs)
        ∗ (dst.view.loc (peer c : Thread nD τ) ↦[dst.view.set]{fullShare} fd) ∗ owes (c : Thread nD τ) O' W
        ∗ dutyTok ER (kcell (c, ks)) 0 () ∗ dutyTok ER (kcell (peer c, kr)) 0 ())
      ⊢ iprop(((cred (tallyAt (kcell (c, ks)) () (amt ks)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma a) hsc) (.dma b) hsrc hdst hsem) kk) Q) := by
  subst hn
  have hcs : kcell (c, ks) = ((c : Thread nD τ), SemLoc.dma a) := by show ((c : Thread nD τ), csem ks) = _; rw [ha]
  have hcr : kcell (peer c, kr) = ((peer c : Thread nD τ), SemLoc.dma b) := by show ((peer c : Thread nD τ), csem kr) = _; rw [hb]
  have d₁ := mem_duties m c ks
  have d₂ := mem_duties m (peer c) kr
  have a₁ := (amount_cell m c ks).trans hks
  have a₂ := amount_cell m (peer c) kr
  have p₁ := payload_cell m c ks
  have p₂ := payload_cell m (peer c) kr
  have r₁ := records_at m K (c, ks)
  have r₂ := records_at m K (peer c, kr)
  unfold due at hO
  rw [hks]
  rw [hcs] at d₁ a₁ p₁ r₁ ⊢
  rw [hcr] at d₂ a₂ p₂ r₂ hO ⊢
  iintro ⟨#HR, Hs, Hd, HO, Hts, Htr⟩
  ihave #HA := r₁ $$ HR
  icases HA with ⟨#HI₁, #Hr₁⟩
  ihave #HB := r₂ $$ HR
  icases HB with ⟨#HI₂, #Hr₂⟩
  iapply (Rounds.wp_send_pointsTo 𝒱₀ ER (Rd m) (c : Thread nD τ) none (κ₁ := K (c, ks)) (κ₂ := K (peer c, kr))
    (r₁ := 0) (r₂ := 0) (d₁ := ()) (d₂ := ()) (fd := fd) d₁ d₂ () () (amt kr) hN a₁ a₂ O hO (W := W)
    (by rw [p₁]; exact hps) (by rw [p₂]; exact hpr)) $$ [Hs Hd HO Hts Htr]
  isplitr; · iexact HI₁
  isplitr; · iexact HI₂
  isplitl [Hs]; · iexact Hs
  isplitl [Hd]; · iexact Hd
  isplitl [HO]; · iexact HO
  isplitl [Hts]; · iexact Hts
  isplitr; · iexact Hr₁
  isplitl [Htr]; · iexact Htr
  iexact Hr₂

abbrev rQ (o : Fin 3 → Nat) (i : ∀ a, o a + S1x256x512.size a ≤ S2x512x512.size a) : Rect S2x512x512 := Rect.unit (s := S2x512x512) o S1x256x512.size i
abbrev rS (o : Fin 3 → Nat) (i : ∀ a, o a + S1x8x128.size a ≤ S2x8x128.size a) : Rect S2x8x128 := Rect.unit (s := S2x8x128) o S1x8x128.size i

/-- What lands of a half of a byte slot, and of a scale tile. -/
theorem qS_land (c p : Dev nD) (r r' : Rect S2x512x512) (h h') (hq : r.shape.Squeezes S256x512) (hq' : r'.shape.Squeezes S256x512)
    (fs : Buf (Elt F) (qLoc c)) (fd : Buf (Elt F) (qLoc p)) (w : r'.shape.Idx → Elt F .i8)
    (hw : (qM.access r').read (Elt F) (((qM.access r').reshape S256x512 hq'.numel_eq).write (Elt F) fd
      (((qM.access r).reshape S256x512 hq.numel_eq).read (Elt F) fs) Finset.univ) = w) (P : sProp 𝕄) (hP : qHas p r' w ⊢ P) :
    ((qS r' h' hq').view.loc (p : Thread nD τ) ↦[(qS r' h' hq').view.set]{fullShare}
        (qS r' h' hq').view.write (Elt F) fd ((qS r h hq).view.read (Elt F) fs) Finset.univ) ⊢ P := by
  refine (Entails.of_eq (qS_pts p r' h' hq' _)).trans (BIBase.Entails.trans ?_ hP)
  unfold qHas
  iintro H
  iexists _; isplitr
  · ipureintro; exact hw
  iexact H

theorem sS_land (c p : Dev nD) (r r' : Rect S2x8x128) (h h') (hq : r.shape.Squeezes S8x128) (hq' : r'.shape.Squeezes S8x128)
    (fs : Buf (Elt F) (sLoc c)) (fd : Buf (Elt F) (sLoc p)) (w : r'.shape.Idx → Elt F .f32)
    (hw : (sM.access r').read (Elt F) (((sM.access r').reshape S8x128 hq'.numel_eq).write (Elt F) fd
      (((sM.access r).reshape S8x128 hq.numel_eq).read (Elt F) fs) Finset.univ) = w) (P : sProp 𝕄) (hP : sHas p r' w ⊢ P) :
    ((sS r' h' hq').view.loc (p : Thread nD τ) ↦[(sS r' h' hq').view.set]{fullShare}
        (sS r' h' hq').view.write (Elt F) fd ((sS r h hq).view.read (Elt F) fs) Finset.univ) ⊢ P := by
  refine (Entails.of_eq (sS_pts p r' h' hq' _)).trans (BIBase.Entails.trans ?_ hP)
  unfold sHas
  iintro H
  iexists _; isplitr
  · ipureintro; exact hw
  iexact H

/-- The transfer of a half of a byte slot. -/
theorem wp_send_q (c n : Dev nD) (o o' : Fin 3 → Nat) (i i') (hn : n = peer c) (ks kr : Fin 7) {a b : DmaSem sig} (ha : csem ks = .dma a) (hb : csem kr = .dma b)
    (hks : amt ks = amt kr)
    (hN : (qS (rQ o' i') (fun _ => rfl) squeezes_S1x256x512_S256x512).view.amount (.dma b) = amt kr) (w : Vec F S1x256x512 .i8)
    (hps : ∀ f, qPts c (rQ o i) f ⊢ pay m c ks) (hpr : qHas (peer c) (rQ o' i') w ⊢ pay m (peer c) kr)
    {hsc : (qS (rQ o' i') (fun _ => rfl) squeezes_S1x256x512_S256x512).view.ref.isScScratch = false}
    {hsrc : (qS (rQ o i) (fun _ => rfl) squeezes_S1x256x512_S256x512).view.WordExact}
    {hdst : (qS (rQ o' i') (fun _ => rfl) squeezes_S1x256x512_S256x512).view.WordExact}
    {hsem : DmaTarget.Typed .vmem (.dma b) (.remote (Dev.tc n : Thread nD τ) (qS (rQ o' i') (fun _ => rfl) squeezes_S1x256x512_S256x512) (.dma a) hsc)}
    (O' O : CellTallies nD τ sig Unit) (hO : O' = O + due c kr)
    {α : Type} {Q : α → sProp 𝕄} {kk : PUnit → Prog (TpuEff nD τ sig (Elt F) Λ₀ .tc) α} {W : Waits sig Unit} :
    iprop(records m K ∗ qHas c (rQ o i) w ∗ qAny (peer c) (rQ o' i') ∗ owes (c : Thread nD τ) O' W
        ∗ dutyTok ER (kcell (c, ks)) 0 () ∗ dutyTok ER (kcell (peer c, kr)) 0 ())
      ⊢ iprop(((cred (tallyAt (kcell (c, ks)) () (amt ks)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (qS (rQ o i) (fun _ => rfl) squeezes_S1x256x512_S256x512)
                (.remote (Dev.tc n : Thread nD τ) (qS (rQ o' i') (fun _ => rfl) squeezes_S1x256x512_S256x512) (.dma a) hsc) (.dma b) hsrc hdst hsem) kk) Q) := by
  unfold qHas qAny
  iintro ⟨#HR, ⟨%fs, %hf, Hs⟩, ⟨%fd, Hd⟩, HO, Hts, Htr⟩
  ihave Hs := (Entails.of_eq (qS_pts c (rQ o i) (fun _ => rfl) squeezes_S1x256x512_S256x512 fs).symm) $$ Hs
  ihave Hd := (Entails.of_eq (qS_pts (peer c) (rQ o' i') (fun _ => rfl) squeezes_S1x256x512_S256x512 fd).symm) $$ Hd
  have hp := (Entails.of_eq (qS_pts c (rQ o i) (fun _ => rfl) squeezes_S1x256x512_S256x512 fs)).trans (hps fs)
  have hl := qS_land c (peer c) (rQ o i) (rQ o' i') (fun _ => rfl) (fun _ => rfl) squeezes_S1x256x512_S256x512 squeezes_S1x256x512_S256x512 fs fd w
    ((read_write_reshaped (Elt F) (qM.access (rQ o i)) (qM.access (rQ o' i')) squeezes_S1x256x512_S256x512.numel_eq fs fd).trans hf) _ hpr
  have hw := wp_send_cell (hsc := hsc) (hsrc := hsrc) (hdst := hdst) (hsem := hsem) (Q := Q) (kk := kk) (W := W) m K c n hn ks kr ha hb hN hks fs fd O' O hO hp hl
  iapply hw $$ [Hs Hd HO Hts Htr]
  isplitr; · iexact HR
  isplitl [Hs]; · iexact Hs
  isplitl [Hd]; · iexact Hd
  isplitl [HO]; · iexact HO
  isplitl [Hts] <;> iassumption

/-- The transfer of the scale tile. -/
theorem wp_send_s (c n : Dev nD) (o o' : Fin 3 → Nat) (i i') (hn : n = peer c) (ks kr : Fin 7) {a b : DmaSem sig} (ha : csem ks = .dma a) (hb : csem kr = .dma b)
    (hks : amt ks = amt kr)
    (hN : (sS (rS o' i') (fun _ => rfl) squeezes_S1x8x128_S8x128).view.amount (.dma b) = amt kr) (w : Vec F S1x8x128 .f32)
    (hps : ∀ f, sPts c (rS o i) f ⊢ pay m c ks) (hpr : sHas (peer c) (rS o' i') w ⊢ pay m (peer c) kr)
    {hsc : (sS (rS o' i') (fun _ => rfl) squeezes_S1x8x128_S8x128).view.ref.isScScratch = false}
    {hsrc : (sS (rS o i) (fun _ => rfl) squeezes_S1x8x128_S8x128).view.WordExact}
    {hdst : (sS (rS o' i') (fun _ => rfl) squeezes_S1x8x128_S8x128).view.WordExact}
    {hsem : DmaTarget.Typed .vmem (.dma b) (.remote (Dev.tc n : Thread nD τ) (sS (rS o' i') (fun _ => rfl) squeezes_S1x8x128_S8x128) (.dma a) hsc)}
    (O' O : CellTallies nD τ sig Unit) (hO : O' = O + due c kr)
    {α : Type} {Q : α → sProp 𝕄} {kk : PUnit → Prog (TpuEff nD τ sig (Elt F) Λ₀ .tc) α} {W : Waits sig Unit} :
    iprop(records m K ∗ sHas c (rS o i) w ∗ sAny (peer c) (rS o' i') ∗ owes (c : Thread nD τ) O' W
        ∗ dutyTok ER (kcell (c, ks)) 0 () ∗ dutyTok ER (kcell (peer c, kr)) 0 ())
      ⊢ iprop(((cred (tallyAt (kcell (c, ks)) () (amt ks)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sS (rS o i) (fun _ => rfl) squeezes_S1x8x128_S8x128)
                (.remote (Dev.tc n : Thread nD τ) (sS (rS o' i') (fun _ => rfl) squeezes_S1x8x128_S8x128) (.dma a) hsc) (.dma b) hsrc hdst hsem) kk) Q) := by
  unfold sHas sAny
  iintro ⟨#HR, ⟨%fs, %hf, Hs⟩, ⟨%fd, Hd⟩, HO, Hts, Htr⟩
  ihave Hs := (Entails.of_eq (sS_pts c (rS o i) (fun _ => rfl) squeezes_S1x8x128_S8x128 fs).symm) $$ Hs
  ihave Hd := (Entails.of_eq (sS_pts (peer c) (rS o' i') (fun _ => rfl) squeezes_S1x8x128_S8x128 fd).symm) $$ Hd
  have hp := (Entails.of_eq (sS_pts c (rS o i) (fun _ => rfl) squeezes_S1x8x128_S8x128 fs)).trans (hps fs)
  have hl := sS_land c (peer c) (rS o i) (rS o' i') (fun _ => rfl) (fun _ => rfl) squeezes_S1x8x128_S8x128 squeezes_S1x8x128_S8x128 fs fd w
    ((read_write_reshaped (Elt F) (sM.access (rS o i)) (sM.access (rS o' i')) squeezes_S1x8x128_S8x128.numel_eq fs fd).trans hf) _ hpr
  have hw := wp_send_cell (hsc := hsc) (hsrc := hsrc) (hdst := hdst) (hsem := hsem) (Q := Q) (kk := kk) (W := W) m K c n hn ks kr ha hb hN hks fs fd O' O hO hp hl
  iapply hw $$ [Hs Hd HO Hts Htr]
  isplitr; · iexact HR
  isplitl [Hs]; · iexact Hs
  isplitl [Hd]; · iexact Hd
  isplitl [HO]; · iexact HO
  isplitl [Hts] <;> iassumption

/-- A load of a half of a byte slot of known contents, of any contents, and a store of one. -/
theorem wp_load_q (c : Dev nD) {r : Rect S2x512x512} {w : r.shape.Idx → Elt F .i8} {hl : (qM : Memref sig .tc .vmem _ _).view.LoadsAt r}
    {α : Type} {Q : α → sProp 𝕄} {kk : (r.shape.Idx → Elt F .i8) → Prog (TpuEff nD τ sig (Elt F) Λ₀ .tc) α} :
    qHas c r w ⊢ iprop((qHas c r w -∗ wp frame (wpE (defs₀ (F := F)) 𝒱₀ (c : Thread nD τ) none) Set.univ (kk w) Q)
      -∗ wp frame (wpE (defs₀ (F := F)) 𝒱₀ (c : Thread nD τ) none) Set.univ (.op (.load qM r hl) kk) Q) := by
  unfold qHas
  iintro ⟨%f, %hf, H⟩ Hk
  subst hf
  iapply (wp_load_rect 𝒱₀ (c : Thread nD τ) none Set.univ (m := qM) (r := r) (Finset.Subset.refl _)) $$ H; iintro H
  iapply Hk
  iexists f; isplitr; · (ipureintro; rfl)
  iexact H
theorem wp_peek_q (c : Dev nD) {r : Rect S2x512x512} {hl : (qM : Memref sig .tc .vmem _ _).view.LoadsAt r}
    {α : Type} {Q : α → sProp 𝕄} {kk : (r.shape.Idx → Elt F .i8) → Prog (TpuEff nD τ sig (Elt F) Λ₀ .tc) α} :
    qAny c r ⊢ iprop((∀ w, qAny c r -∗ wp frame (wpE (defs₀ (F := F)) 𝒱₀ (c : Thread nD τ) none) Set.univ (kk w) Q)
      -∗ wp frame (wpE (defs₀ (F := F)) 𝒱₀ (c : Thread nD τ) none) Set.univ (.op (.load qM r hl) kk) Q) := by
  unfold qAny
  iintro ⟨%f, H⟩ Hk
  iapply (wp_load_rect 𝒱₀ (c : Thread nD τ) none Set.univ (m := qM) (r := r) (Finset.Subset.refl _)) $$ H; iintro H
  iapply Hk $$ %_
  iexists f; iexact H
theorem wp_store_q (c : Dev nD) {r : Rect S2x512x512} {w : r.shape.Idx → Elt F .i8} {hx : ((qM : Memref sig .tc .vmem _ _).access r).Stores Finset.univ} {hm}
    {α : Type} {Q : α → sProp 𝕄} {kk : PUnit → Prog (TpuEff nD τ sig (Elt F) Λ₀ .tc) α} :
    qAny c r ⊢ iprop((qHas c r w -∗ wp frame (wpE (defs₀ (F := F)) 𝒱₀ (c : Thread nD τ) none) Set.univ (kk ⟨⟩) Q)
      -∗ wp frame (wpE (defs₀ (F := F)) 𝒱₀ (c : Thread nD τ) none) Set.univ (.op (.store qM r w Finset.univ hx hm) kk) Q) := by
  unfold qAny qHas
  iintro ⟨%f, H⟩ Hk
  iapply (wp_store 𝒱₀ (c : Thread nD τ) none Set.univ (m := qM) (r := r) (Mk := Finset.univ) (Eq.subset (View.setOn_univ _))) $$ H; iintro H
  iapply Hk
  iexists _; isplitr [H]
  swap; · iexact H
  ipureintro; exact View.read_write_univ _ _

/-- A load of a scale slot of any contents, a store of one, and the load of the landed scale's corner. -/
theorem wp_peek_s (c : Dev nD) {r : Rect S2x8x128} {hl : (sM : Memref sig .tc .vmem _ _).view.LoadsAt r}
    {α : Type} {Q : α → sProp 𝕄} {kk : (r.shape.Idx → Elt F .f32) → Prog (TpuEff nD τ sig (Elt F) Λ₀ .tc) α} :
    sAny c r ⊢ iprop((∀ w, sAny c r -∗ wp frame (wpE (defs₀ (F := F)) 𝒱₀ (c : Thread nD τ) none) Set.univ (kk w) Q)
      -∗ wp frame (wpE (defs₀ (F := F)) 𝒱₀ (c : Thread nD τ) none) Set.univ (.op (.load sM r hl) kk) Q) := by
  unfold sAny
  iintro ⟨%f, H⟩ Hk
  iapply (wp_load_rect 𝒱₀ (c : Thread nD τ) none Set.univ (m := sM) (r := r) (Finset.Subset.refl _)) $$ H; iintro H
  iapply Hk $$ %_
  iexists f; iexact H
theorem wp_store_s (c : Dev nD) {r : Rect S2x8x128} {w : r.shape.Idx → Elt F .f32} {hx : ((sM : Memref sig .tc .vmem _ _).access r).Stores Finset.univ} {hm}
    {α : Type} {Q : α → sProp 𝕄} {kk : PUnit → Prog (TpuEff nD τ sig (Elt F) Λ₀ .tc) α} :
    sAny c r ⊢ iprop((sHas c r w -∗ wp frame (wpE (defs₀ (F := F)) 𝒱₀ (c : Thread nD τ) none) Set.univ (kk ⟨⟩) Q)
      -∗ wp frame (wpE (defs₀ (F := F)) 𝒱₀ (c : Thread nD τ) none) Set.univ (.op (.store sM r w Finset.univ hx hm) kk) Q) := by
  unfold sAny sHas
  iintro ⟨%f, H⟩ Hk
  iapply (wp_store 𝒱₀ (c : Thread nD τ) none Set.univ (m := sM) (r := r) (Mk := Finset.univ) (Eq.subset (View.setOn_univ _))) $$ H; iintro H
  iapply Hk
  iexists _; isplitr [H]
  swap; · iexact H
  ipureintro; exact View.read_write_univ _ _
theorem wp_load_corner (c p : Dev nD) {hl : (sM : Memref sig .tc .vmem _ _).view.LoadsAt rS1c}
    {α : Type} {Q : α → sProp 𝕄} {kk : (rS1c.shape.Idx → Elt F .f32) → Prog (TpuEff nD τ sig (Elt F) Λ₀ .tc) α} :
    sHas c rS1 (sc m p) ⊢ iprop((sHas c rS1 (sc m p) -∗ wp frame (wpE (defs₀ (F := F)) 𝒱₀ (c : Thread nD τ) none) Set.univ (kk (sc1 m p)) Q)
      -∗ wp frame (wpE (defs₀ (F := F)) 𝒱₀ (c : Thread nD τ) none) Set.univ (.op (.load sM rS1c hl) kk) Q) := by
  unfold sHas
  iintro ⟨%f, %hf, H⟩ Hk
  rw [← read_corner m c f p hf]
  iapply (wp_load_rect 𝒱₀ (c : Thread nD τ) none Set.univ (m := sM) (r := rS1c) corner_sub) $$ H; iintro H
  iapply Hk
  iexists f; isplitr; · (ipureintro; exact hf)
  iexact H

end Rules

end Cert.Exchange

end
-- ==== Proof.Sound.lean ====
/-
# The run of one device's body
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem pay_bar (c : Dev nD) : pay m (peer c) 0 = iprop(qAny c rQ10 ∗ qAny c rQ11 ∗ sAny c rS1) := by
  show iprop(qAny (peer (peer c)) rQ10 ∗ qAny (peer (peer c)) rQ11 ∗ sAny (peer (peer c)) rS1) = _
  rw [peer_peer]
theorem pay_q0 (c : Dev nD) : qHas (peer c) rQ10 (q0 m c) ⊢ pay m (peer c) 3 := by
  show _ ⊢ qHas (peer c) rQ10 (q0 m (peer (peer c)))
  rw [peer_peer]
theorem pay_q1 (c : Dev nD) : qHas (peer c) rQ11 (q1 m c) ⊢ pay m (peer c) 4 := by
  show _ ⊢ qHas (peer c) rQ11 (q1 m (peer (peer c)))
  rw [peer_peer]
theorem pay_sc (c : Dev nD) : sHas (peer c) rS1 (sc m c) ⊢ pay m (peer c) 6 := by
  show _ ⊢ sHas (peer c) rS1 (sc m (peer (peer c)))
  rw [peer_peer]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 7 → ℕ) (c : Dev nD) : sProp 𝕄 :=
  iprop((ghost m K c ∗ creds c ∗ levAts L lv ∗ args m c ∗ scratch c)
    ∗ (dats m ρ 0 c).owesAt () t0_0.castSucc
    ∗ (∃ d, stg c cc0_stg0_0 ((dats m ρ 0 c).before (0 : Fin 1) t0_0 d)))

def bodyPost (c : Dev nD) : sProp 𝕄 :=
  iprop(Φ₁ m c ∗ (dats m ρ 0 c).owesAt () t0_0.succ ∗ stg c cc0_stg0_0 (outAt m c))

theorem hz2 : (![0, 0] : Fin 2 → Nat) = fun _ => 0 := funext fun a => by fin_cases a <;> rfl

theorem q_drop (c : Dev nD) {r w} : (qHas c r w : sProp 𝕄) ⊢ qAny c r := by
  unfold qHas qAny
  iintro ⟨%f, -, H⟩
  iexists f; iexact H
theorem s_drop (c : Dev nD) {r w} : (sHas c r w : sProp 𝕄) ⊢ sAny c r := by
  unfold sHas sAny
  iintro ⟨%f, -, H⟩
  iexists f; iexact H

/-- What the local transfers leave to be read. -/
theorem land_x0 (c : Dev nD) (f : Buf (Elt F) (xLoc c)) :
    (xM.access rX0).read (Elt F) ((xM.access rX0).write (Elt F) f ((aM.access rX0).read (Elt F) (m (aLoc c))) Finset.univ) = x0 m c :=
  View.read_write_univ _ _
theorem land_x1 (c : Dev nD) (f : Buf (Elt F) (xLoc c)) :
    (xM.access rX1).read (Elt F) ((xM.access rX1).write (Elt F) f ((aM.access rX1).read (Elt F) (m (aLoc c))) Finset.univ) = x1 m c :=
  View.read_write_univ _ _
theorem land_whole (c : Dev nD) (f : Buf (Elt F) (wLoc c)) :
    (wM : Memref sig .tc .vmem _ _).view.write (Elt F) f ((bM : Memref sig .tc .hbm _ _).view.read (Elt F) (m (bLoc c))) Finset.univ = wv m c :=
  View.write_whole_univ cc0_scratch1 f _
theorem read_w (c : Dev nD) : (wM.access rW).read (Elt F) (wv m c) = wv m c :=
  Memref.readAt_unit_zero (Elt F) cc0_scratch1 hz2 _ _

/-- The first half of the rows landed; the second half's transfer in flight; the input block at rest again. -/
def landed0 (c : Dev nD) : sProp 𝕄 := iprop(∃ f, ⌜(xM.access rX0).read (Elt F) f = x0 m c⌝ ∗ xLoc c ↦{fullShare} f)
def flying1 (c : Dev nD) : sProp 𝕄 :=
  iprop((∃ f, Transfers.Flight EC (c : Thread nD τ) (osem 0) () ((xM.slice rX1 (fun _ => rfl) : Memref sig .tc .vmem _ _).view.dmaCredit)
      iprop((xLoc c ↦[xRest]{fullShare} (xM.access rX1).write (Elt F) f ((aM.access rX1).read (Elt F) (m (aLoc c))) Finset.univ)
        ∗ (aLoc c ↦[(aM.access rX1).set]{fullShare} m (aLoc c))))
    ∗ (aLoc c ↦[Finset.univ \ (aM.access rX1).set]{fullShare} m (aLoc c)) ∗ (∃ f, xLoc c ↦[(xM.access rX0).set]{fullShare} f))
def xAny (c : Dev nD) : sProp 𝕄 := iprop(∃ f, xLoc c ↦{fullShare} f)

section Parts

variable (K : Dev nD × Fin 7 → ℕ) (c : Dev nD)

/-- The signal to the peer's barrier, the weight block and the first half of the rows brought in. -/
theorem run_part1 (Q : PUnit → sProp 𝕄) (kk : (Σ' (d0 : Dev nD) (v5 : BitVec 32) (v8 : BitVec 32) (v9 : BitVec 32), Sems sig S_) → Prog (TpuEff nD τ sig (Elt F) Λ₀ .tc) PUnit) :
    iprop(records m K
        ∗ levAts L lv
        ∗ dutyTok ER (kcell (peer c, 0)) 0 ()
        ∗ qAny c rQ10
        ∗ qAny c rQ11
        ∗ sAny c rS1
        ∗ (∃ W, owes (c : Thread nD τ) (O₀ c) W)
        ∗ args m c
        ∗ xAny c
        ∗ (∃ f, wLoc c ↦{fullShare} f)
        ∗ semVal ((c : Thread nD τ), osem 0) 0
        ∗ semVal ((c : Thread nD τ), osem 1) 0)
      ⊢ iprop((∀ v5 v8 v9, iprop((∃ W, owes (c : Thread nD τ) (O₁ c) W)
        ∗ args m c
        ∗ landed0 m c
        ∗ (wLoc c ↦{fullShare} wv m c)
        ∗ semVal ((c : Thread nD τ), osem 0) 0
        ∗ semVal ((c : Thread nD τ), osem 1) 0) -∗ wp frame (wpE (defs₀ (F := F)) 𝒱₀ (c : Thread nD τ) none) Set.univ (kk ⟨c, v5, v8, v9, SemArray.scalar (sig.barrier 0 rfl)⟩) Q)
        -∗ wp frame (wpE (defs₀ (F := F)) 𝒱₀ (c : Thread nD τ) none) Set.univ (k0_part1 (Memref.whole main_arg0) (Memref.isWhole_whole _) (Memref.whole main_arg1) (Memref.isWhole_whole _) (Memref.whole cc0_stg0_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 cc0_scratch6 cc0_scratch7 cc0_scratch8  >>= kk) Q) := by
  simp only [k0_part1_eq_skeleton]; unfold k0_part1_skel
  simp only [semSignalWord, semWaitWord, Prog.lift, Prog.bind_op, Prog.bind_ret, Prog.pure_eq_ret, wp_deviceId]
  unfold args xAny
  iintro ⟨#HR, #Hlev, Ht0, Hq10, Hq11, Hs1, ⟨%W, HO⟩, ⟨HA, HB⟩, ⟨%fx, Hx⟩, ⟨%fw, Hw⟩, Hi0, Hi1⟩ Hk
  simp only [dev1_eq c]
  -- the signal to the peer's barrier, with the three landing regions
  ihave #HRb := (records_at m K (peer c, 0)) $$ HR
  icases HRb with ⟨#HIb, #Hrb⟩
  iapply (Rounds.wp_signal 𝒱₀ ER (Rd m) (c : Thread nD τ) none (dst := (peer c : Thread nD τ)) (κ := K (peer c, 0))
      (d := ()) (mem_duties m (peer c) 0) ((amount_cell m (peer c) 0).trans (by decide)) () (O₁ c) rfl)
    $$ [HO Ht0 Hq10 Hq11 Hs1]
  · isplitr; · iexact HIb
    isplitl [HO]; · iexact HO
    isplitl [Ht0]; · iexact Ht0
    isplitl [Hq10 Hq11 Hs1]
    · iapply (Entails.of_eq ((payload_cell m (peer c) 0).trans (pay_bar m c)).symm)
      isplitl [Hq10]; · iexact Hq10
      isplitl [Hq11] <;> iassumption
    iexact Hrb
  iintro HO
  -- the weight block's transfer
  iapply (Transfers.wp_dmaLocal EC 𝒱₀ (c : Thread nD τ) none () (Sd := Finset.univ) (fd := fw) (fs := m (bLoc c)) (q := fullShare)
    _ rfl (View.dmaCredit_pos _ (by decide)) (Finset.subset_univ _)) $$ [HB Hw Hi1]
  · isplitl [HB]; · (rw [View.set_whole]; iexact HB)
    isplitl [Hw] <;> iassumption
  iintro HF1
  -- the first half of the rows
  ihave HA := (pointsTo_split_subset (ℓ := aLoc c) (I := (aM.access rX0).set) (Finset.subset_univ _)).1 $$ HA
  icases HA with ⟨HA0, HAr⟩
  iapply (Transfers.wp_dmaLocal EC 𝒱₀ (c : Thread nD τ) none () (Sd := Finset.univ) (fd := fx) (fs := m (aLoc c)) (q := fullShare)
    _ rfl (View.dmaCredit_pos _ (by decide)) (Finset.subset_univ _)) $$ [HA0 Hx Hi0]
  · isplitl [HA0]; · iexact HA0
    isplitl [Hx] <;> iassumption
  iintro HF0
  iapply (Transfers.wp_waitLocalO EC 𝒱₀ (c : Thread nD τ) none () rfl) $$ [HF0 HO]
  · isplitl [HF0]; · iexact HF0
    isplitl [HO]; · iexact HO
    iapply (mayWait_O₁ c _ (by decide)); iexact Hlev
  iintro ⟨⟨Hx, HA0⟩, Hi0, HO⟩
  ihave HA := (pointsTo_split_subset (ℓ := aLoc c) (I := (aM.access rX0).set) (Finset.subset_univ _)).2 $$ [HA0 HAr]
  · isplitl [HA0] <;> iassumption
  -- the weight block has landed
  iapply (Transfers.wp_waitLocalO EC 𝒱₀ (c : Thread nD τ) none () rfl) $$ [HF1 HO]
  · isplitl [HF1]; · iexact HF1
    isplitl [HO]; · iexact HO
    iapply (mayWait_O₁ c _ (by decide)); iexact Hlev
  iintro ⟨⟨Hw, HB⟩, Hi1, HO⟩
  iapply Hk $$ %_ %_ %_
  isplitl [HO]; · iexists _; iexact HO
  isplitl [HA HB]
  · isplitl [HA]; · iexact HA
    rw [View.set_whole]; iexact HB
  isplitl [Hx]
  · unfold landed0; iexists _; isplitr [Hx]
    swap; · iexact Hx
    ipureintro; exact land_x0 m c fx
  isplitl [Hw]; · iapply (Entails.of_eq (congrArg (fun f => (wLoc c ↦{fullShare} f : sProp 𝕄)) (land_whole m c fw))); iexact Hw
  isplitl [Hi0] <;> iassumption

/-- The second half's transfer started; the first partial, its bytes and its scale stored; the wait on the barrier. -/
theorem run_part2 (Q : PUnit → sProp 𝕄) (v9 : BitVec 32) (kk : (Σ' (v35 : FVec F S256x512 .f32) (v43 : F .f32) (v56 : BitVec 32), BitVec 32) → Prog (TpuEff nD τ sig (Elt F) Λ₀ .tc) PUnit) :
    iprop(records m K
        ∗ levAts L lv
        ∗ cred (tallyAt (kcell (c, 0)) () (amt 0))
        ∗ atPos ER (kcell (c, 0)) 0 ∅ 0
        ∗ (∃ W, owes (c : Thread nD τ) (O₁ c) W)
        ∗ args m c
        ∗ landed0 m c
        ∗ (wLoc c ↦{fullShare} wv m c)
        ∗ semVal ((c : Thread nD τ), osem 0) 0
        ∗ qAny c rQ00
        ∗ sAny c rS0)
      ⊢ iprop((∀ v56 v57, iprop((∃ W, owes (c : Thread nD τ) (O₁ c) W)
        ∗ flying1 m c
        ∗ (bLoc c ↦{fullShare} m (bLoc c))
        ∗ (wLoc c ↦{fullShare} wv m c)
        ∗ qHas c rQ00 (q0 m c)
        ∗ sHas c rS0 (sc m c)
        ∗ qAny (peer c) rQ10
        ∗ qAny (peer c) rQ11
        ∗ sAny (peer c) rS1
        ∗ semVal (kcell (c, 0)) 0) -∗ wp frame (wpE (defs₀ (F := F)) 𝒱₀ (c : Thread nD τ) none) Set.univ (kk ⟨k0_pay2 (x0 m c) (wv m c), k0_pay4 (x0 m c) (wv m c), v56, v57⟩) Q)
        -∗ wp frame (wpE (defs₀ (F := F)) 𝒱₀ (c : Thread nD τ) none) Set.univ (k0_part2 (Memref.whole main_arg0) (Memref.isWhole_whole _) (Memref.whole main_arg1) (Memref.isWhole_whole _) (Memref.whole cc0_stg0_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 cc0_scratch6 cc0_scratch7 cc0_scratch8 v9 (SemArray.scalar (sig.barrier 0 rfl)) >>= kk) Q) := by
  simp only [k0_part2_eq_skeleton]; unfold k0_part2_skel
  simp only [semSignalWord, semWaitWord, Prog.lift, Prog.bind_op, Prog.bind_ret, Prog.pure_eq_ret, wp_deviceId]
  unfold args landed0
  iintro ⟨#HR, #Hlev, Hc0, Ha0, ⟨%W, HO⟩, ⟨HA, HB⟩, ⟨%fx, %hfx, Hx⟩, Hw, Hi0, Hq00, Hs0⟩ Hk
  -- the first half is kept apart while the second is on its way
  ihave Hx := (pointsTo_split_subset (ℓ := xLoc c) (I := (xM.access rX0).set) (Finset.subset_univ _)).1 $$ Hx
  icases Hx with ⟨Hx0, Hx1⟩
  ihave HA := (pointsTo_split_subset (ℓ := aLoc c) (I := (aM.access rX1).set) (Finset.subset_univ _)).1 $$ HA
  icases HA with ⟨HA1, HAr⟩
  iapply (Transfers.wp_dmaLocal EC 𝒱₀ (c : Thread nD τ) none () (dst := (xM.slice rX1 (fun _ => rfl) : Memref sig .tc .vmem _ _))
    (Sd := xRest) (fs := m (aLoc c)) (q := fullShare)
    _ rfl (View.dmaCredit_pos _ (by decide)) (sub_sdiff (Finset.subset_univ _) dX)) $$ [HA1 Hx1 Hi0]
  · isplitl [HA1]; · iexact HA1
    isplitl [Hx1] <;> iassumption
  iintro HF0
  -- the first partial, its bytes and its scale
  iapply (wp_load_rect 𝒱₀ (c : Thread nD τ) none Set.univ (m := xM) (r := rX0) (Finset.Subset.refl _)) $$ Hx0; iintro Hx0
  iapply (wp_load_rect 𝒱₀ (c : Thread nD τ) none Set.univ (m := wM) (r := rW) (Finset.subset_univ _)) $$ Hw; iintro Hw
  rw [hfx, read_w]
  iapply (wp_peek_q c) $$ Hq00; iintro %_ Hq00
  iapply (wp_store_q c) $$ Hq00; iintro Hq00
  iapply (wp_peek_s c) $$ Hs0; iintro %_ Hs0
  iapply (wp_store_s c) $$ Hs0; iintro Hs0
  -- the wait on its own barrier: the peer's landing regions
  ihave #HRb := (records_at m K (c, 0)) $$ HR
  icases HRb with ⟨#HIc, -⟩
  iapply (Rounds.wp_wait_rest_token 𝒱₀ ER (Rd m) (c : Thread nD τ) none (κ := K (c, 0))
      (wpE_semWait_eq 𝒱₀ (c : Thread nD τ) none Set.univ) (Set.mem_univ _) () (O := O₁ c) (R := 0) (m := 0) (T := ∅)
      ((Nat.zero_add _).trans (((expect_cell m c 0).trans (by decide : amt 0 = 1)).symm))) $$ [Hc0 HO Ha0]
  · isplitr; · iexact HIc
    isplitl [Hc0]; · iexact Hc0
    isplitl [HO]; · iexact HO
    isplitr; · (iapply (mayWait_O₁ c _ (by decide)); iexact Hlev)
    iexact Ha0
  iintro ⟨HO, Ha0, -, Hpay⟩
  ihave Hp := (Entails.of_eq (rest_cell m c 0)) $$ Hpay
  unfold pay
  icases Hp with ⟨Hp10, Hp11, Hps1⟩
  imod (Rounds.cell_close ER (Rd m) (Set.mem_univ (K (c, 0))) (fun h => h) (R := 0 + 1) (duties_later m _)) $$ [Ha0] with Hz0
  · isplitr; · iexact HIc
    iexact Ha0
  iapply Hk $$ %_ %_
  isplitl [HO]; · iexists _; iexact HO
  isplitl [HF0 HAr Hx0]
  · unfold flying1
    isplitl [HF0]; · iexists _; iexact HF0
    isplitl [HAr]; · iexact HAr
    iexists _; iexact Hx0
  isplitl [HB]; · iexact HB
  isplitl [Hw]; · iexact Hw
  isplitl [Hq00]; · iexact Hq00
  isplitl [Hs0]; · iexact Hs0
  isplitl [Hp10]; · iexact Hp10
  isplitl [Hp11]; · iexact Hp11
  isplitl [Hps1] <;> iassumption

/-- The first half's bytes and the scale sent; the second half of the rows landed; the second partial. -/
theorem run_part3 (Q : PUnit → sProp 𝕄) (v5 v8 v9 v56 v57 : BitVec 32) (v43 : F .f32) (kk : (Σ' (v85 : FVec F S256x512 .f32), FVec F S256x512 .f32) → Prog (TpuEff nD τ sig (Elt F) Λ₀ .tc) PUnit) :
    iprop(records m K
        ∗ levAts L lv
        ∗ (dutyTok ER (kcell (c, 1)) 0 () ∗ dutyTok ER (kcell (peer c, 3)) 0 () ∗ dutyTok ER (kcell (c, 5)) 0 () ∗ dutyTok ER (kcell (peer c, 6)) 0 ())
        ∗ (∃ W, owes (c : Thread nD τ) (O₁ c) W)
        ∗ flying1 m c
        ∗ (wLoc c ↦{fullShare} wv m c)
        ∗ qHas c rQ00 (q0 m c)
        ∗ sHas c rS0 (sc m c)
        ∗ qAny (peer c) rQ10
        ∗ sAny (peer c) rS1)
      ⊢ iprop((iprop((∃ W, owes (c : Thread nD τ) (O₃ c) W)
        ∗ (aLoc c ↦{fullShare} m (aLoc c))
        ∗ xAny c
        ∗ (wLoc c ↦{fullShare} wv m c)
        ∗ cred (tallyAt (kcell (c, 1)) () (amt 1))
        ∗ cred (tallyAt (kcell (c, 5)) () (amt 5))
        ∗ semVal ((c : Thread nD τ), osem 0) 0) -∗ wp frame (wpE (defs₀ (F := F)) 𝒱₀ (c : Thread nD τ) none) Set.univ (kk ⟨k0_pay7 (x1 m c) (wv m c), k0_pay8 v43 (x1 m c) (wv m c)⟩) Q)
        -∗ wp frame (wpE (defs₀ (F := F)) 𝒱₀ (c : Thread nD τ) none) Set.univ (k0_part3 (Memref.whole main_arg0) (Memref.isWhole_whole _) (Memref.whole main_arg1) (Memref.isWhole_whole _) (Memref.whole cc0_stg0_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 cc0_scratch6 cc0_scratch7 cc0_scratch8 c v5 v8 v9 v43 v56 v57 >>= kk) Q) := by
  simp only [k0_part3_eq_skeleton]; unfold k0_part3_skel
  simp only [semSignalWord, semWaitWord, Prog.lift, Prog.bind_op, Prog.bind_ret, Prog.pure_eq_ret, wp_deviceId]
  unfold flying1
  iintro ⟨#HR, #Hlev, ⟨Ht1, Ht3, Ht5, Ht6⟩, ⟨%W, HO⟩, ⟨⟨%fx, HF0⟩, HAr, Hx0⟩, Hw, Hq00, Hs0, Hp10, Hps1⟩ Hk
  -- the first half's bytes and the scale are sent
  iapply (wp_send_q m K c _ ![0, 0, 0] ![1, 0, 0] inb_S2x512x512_S1x256x512_0_0_0 inb_S2x512x512_S1x256x512_1_0_0 (dev2_eq c) 1 3 rfl rfl rfl rfl (q0 m c)
    (fun f => by show _ ⊢ qAny c rQ00; unfold qAny; iintro H; iexists f; iexact H) (pay_q0 m c) (O₁ c) (O₂ c) rfl) $$ [Hq00 Hp10 HO Ht1 Ht3]
  · isplitr; · iexact HR
    isplitl [Hq00]; · iexact Hq00
    isplitl [Hp10]; · iexact Hp10
    isplitl [HO]; · iexact HO
    isplitl [Ht1] <;> iassumption
  iintro ⟨Hc1, HO⟩
  iapply (wp_send_s m K c _ ![0, 0, 0] ![1, 0, 0] inb_S2x8x128_S1x8x128_0_0_0 inb_S2x8x128_S1x8x128_1_0_0 (dev3_eq c) 5 6 rfl rfl rfl rfl (sc m c)
    (fun f => by show _ ⊢ sAny c rS0; unfold sAny; iintro H; iexists f; iexact H) (pay_sc m c) (O₂ c) (O₃ c) rfl) $$ [Hs0 Hps1 HO Ht5 Ht6]
  · isplitr; · iexact HR
    isplitl [Hs0]; · iexact Hs0
    isplitl [Hps1]; · iexact Hps1
    isplitl [HO]; · iexact HO
    isplitl [Ht5] <;> iassumption
  iintro ⟨Hc5, HO⟩
  -- the second half of the rows has landed
  iapply (Transfers.wp_waitLocalO EC 𝒱₀ (c : Thread nD τ) none () rfl) $$ [HF0 HO]
  · isplitl [HF0]; · iexact HF0
    isplitl [HO]; · iexact HO
    iapply (mayWait_O₃ c _ (by decide)); iexact Hlev
  iintro ⟨⟨Hx1, HA1⟩, Hi0, HO⟩
  ihave HA := (pointsTo_split_subset (ℓ := aLoc c) (I := (aM.access rX1).set) (Finset.subset_univ _)).2 $$ [HA1 HAr]
  · isplitl [HA1] <;> iassumption
  iapply (wp_load_rect 𝒱₀ (c : Thread nD τ) none Set.univ (m := xM) (r := rX1) (sub_sdiff (Finset.subset_univ _) dX)) $$ Hx1; iintro Hx1
  iapply (wp_load_rect 𝒱₀ (c : Thread nD τ) none Set.univ (m := wM) (r := rW) (Finset.subset_univ _)) $$ Hw; iintro Hw
  rw [land_x1, read_w]
  iapply Hk
  isplitl [HO]; · iexists _; iexact HO
  isplitl [HA]; · iexact HA
  isplitl [Hx0 Hx1]
  · unfold xAny
    icases Hx0 with ⟨%f0, Hx0⟩
    iexists _
    iapply (pointsTo_join_subset (ℓ := xLoc c) (I := (xM.access rX0).set) (Finset.subset_univ _))
    isplitl [Hx0] <;> iassumption
  isplitl [Hw]; · iexact Hw
  isplitl [Hc1]; · iexact Hc1
  isplitl [Hc5] <;> iassumption

/-- The second half's bytes stored and sent; the first half's bytes back. -/
theorem run_part4 (Q : PUnit → sProp 𝕄) (v5 v8 v9 : BitVec 32) (kk : PUnit → Prog (TpuEff nD τ sig (Elt F) Λ₀ .tc) PUnit) :
    iprop(records m K
        ∗ dutyTok ER (kcell (c, 2)) 0 ()
        ∗ dutyTok ER (kcell (peer c, 4)) 0 ()
        ∗ (∃ W, owes (c : Thread nD τ) (O₃ c) W)
        ∗ qAny c rQ01
        ∗ qAny (peer c) rQ11
        ∗ cred (tallyAt (kcell (c, 1)) () (amt 1))
        ∗ atPos ER (kcell (c, 1)) 0 ∅ 0)
      ⊢ iprop((iprop((∃ W, owes (c : Thread nD τ) (0) W)
        ∗ cred (tallyAt (kcell (c, 2)) () (amt 2))
        ∗ qAny c rQ00
        ∗ semVal (kcell (c, 1)) 0) -∗ wp frame (wpE (defs₀ (F := F)) 𝒱₀ (c : Thread nD τ) none) Set.univ (kk ⟨⟩) Q)
        -∗ wp frame (wpE (defs₀ (F := F)) 𝒱₀ (c : Thread nD τ) none) Set.univ (k0_part4 (Memref.whole main_arg0) (Memref.isWhole_whole _) (Memref.whole main_arg1) (Memref.isWhole_whole _) (Memref.whole cc0_stg0_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 cc0_scratch6 cc0_scratch7 cc0_scratch8 c v5 v8 v9 (k0_pay8 (k0_pay4 (x0 m c) (wv m c)) (x1 m c) (wv m c)) >>= kk) Q) := by
  simp only [k0_part4_eq_skeleton]; unfold k0_part4_skel
  simp only [semSignalWord, semWaitWord, Prog.lift, Prog.bind_op, Prog.bind_ret, Prog.pure_eq_ret, wp_deviceId]
  iintro ⟨#HR, Ht2, Ht4, ⟨%W, HO⟩, Hq01, Hp11, Hc1, Ha1⟩ Hk
  iapply (wp_peek_q c) $$ Hq01; iintro %_ Hq01
  iapply (wp_store_q c) $$ Hq01; iintro Hq01
  -- the second half's bytes are sent
  iapply (wp_send_q m K c _ ![0, 256, 0] ![1, 256, 0] inb_S2x512x512_S1x256x512_0_256_0 inb_S2x512x512_S1x256x512_1_256_0 (dev4_eq c) 2 4 rfl rfl rfl rfl (q1 m c)
    (fun f => by show _ ⊢ qAny c rQ01; unfold qAny; iintro H; iexists f; iexact H) (pay_q1 m c) (O₃ c) 0 (zero_add _).symm) $$ [Hq01 Hp11 HO Ht2 Ht4]
  · isplitr; · iexact HR
    isplitl [Hq01]; · iexact Hq01
    isplitl [Hp11]; · iexact Hp11
    isplitl [HO]; · iexact HO
    isplitl [Ht2] <;> iassumption
  iintro ⟨Hc2, HO⟩
  -- the waits of the first half and of the scale
  iapply (wp_wait_cell m K c 1 (dstw := qS rQ00 (fun _ => rfl) squeezes_S1x256x512_S256x512) rfl rfl) $$ [Hc1 HO Ha1]
  · isplitr; · iexact HR
    isplitl [Hc1]; · iexact Hc1
    isplitl [HO] <;> iassumption
  iintro ⟨HO, Hq00, Hz1⟩
  unfold pay
  iapply Hk
  isplitl [HO]; · iexists _; iexact HO
  isplitl [Hc2]; · iexact Hc2
  isplitl [Hq00] <;> iassumption

/-- The peer's first half's bytes and scale landed; the sent scale back. -/
theorem run_part5 (Q : PUnit → sProp 𝕄) (v5 v8 v9 : BitVec 32) (kk : (FVec F S1x1 .f32) → Prog (TpuEff nD τ sig (Elt F) Λ₀ .tc) PUnit) :
    iprop(records m K
        ∗ (∃ W, owes (c : Thread nD τ) (0) W)
        ∗ (cred (tallyAt (kcell (c, 3)) () (amt 3)) ∗ atPos ER (kcell (c, 3)) 0 ∅ 0)
        ∗ (cred (tallyAt (kcell (c, 5)) () (amt 5)) ∗ atPos ER (kcell (c, 5)) 0 ∅ 0)
        ∗ (cred (tallyAt (kcell (c, 6)) () (amt 6)) ∗ atPos ER (kcell (c, 6)) 0 ∅ 0))
      ⊢ iprop((iprop((∃ W, owes (c : Thread nD τ) (0) W)
        ∗ qHas c rQ10 (q0 m (peer c))
        ∗ sAny c rS0
        ∗ sHas c rS1 (sc m (peer c))
        ∗ semVal (kcell (c, 3)) 0
        ∗ semVal (kcell (c, 5)) 0
        ∗ semVal (kcell (c, 6)) 0) -∗ wp frame (wpE (defs₀ (F := F)) 𝒱₀ (c : Thread nD τ) none) Set.univ (kk (k0_pay10 (sc1 m (peer c)))) Q)
        -∗ wp frame (wpE (defs₀ (F := F)) 𝒱₀ (c : Thread nD τ) none) Set.univ (k0_part5 (Memref.whole main_arg0) (Memref.isWhole_whole _) (Memref.whole main_arg1) (Memref.isWhole_whole _) (Memref.whole cc0_stg0_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 cc0_scratch6 cc0_scratch7 cc0_scratch8 v5 v8 v9 >>= kk) Q) := by
  simp only [k0_part5_eq_skeleton]; unfold k0_part5_skel
  simp only [semSignalWord, semWaitWord, Prog.lift, Prog.bind_op, Prog.bind_ret, Prog.pure_eq_ret, wp_deviceId]
  iintro ⟨#HR, ⟨%W, HO⟩, ⟨Hc3, Ha3⟩, ⟨Hc5, Ha5⟩, ⟨Hc6, Ha6⟩⟩ Hk
  iapply (wp_wait_cell m K c 3 (dstw := qS rQ10 (fun _ => rfl) squeezes_S1x256x512_S256x512) rfl rfl) $$ [Hc3 HO Ha3]
  · isplitr; · iexact HR
    isplitl [Hc3]; · iexact Hc3
    isplitl [HO] <;> iassumption
  iintro ⟨HO, Hq10, Hz3⟩
  iapply (wp_wait_cell m K c 5 (dstw := sS rS0 (fun _ => rfl) squeezes_S1x8x128_S8x128) rfl rfl) $$ [Hc5 HO Ha5]
  · isplitr; · iexact HR
    isplitl [Hc5]; · iexact Hc5
    isplitl [HO] <;> iassumption
  iintro ⟨HO, Hs0, Hz5⟩
  iapply (wp_wait_cell m K c 6 (dstw := sS rS1 (fun _ => rfl) squeezes_S1x8x128_S8x128) rfl rfl) $$ [Hc6 HO Ha6]
  · isplitr; · iexact HR
    isplitl [Hc6]; · iexact Hc6
    isplitl [HO] <;> iassumption
  iintro ⟨HO, Hs1, Hz6⟩
  unfold pay
  iapply (wp_load_corner m c (peer c)) $$ Hs1; iintro Hs1
  iapply Hk
  isplitl [HO]; · iexists _; iexact HO
  isplitl [Hq10]; · iexact Hq10
  isplitl [Hs0]; · iexact Hs0
  isplitl [Hs1]; · iexact Hs1
  isplitl [Hz3]; · iexact Hz3
  isplitl [Hz5] <;> iassumption

/-- The first half of the result stored; the second halves' bytes landed and back. -/
theorem run_part6 (Q : PUnit → sProp 𝕄) (g : Buf (Elt F) (oLoc c)) (v5 v8 v9 : BitVec 32) (kk : (FVec F S1x1 .f32) → Prog (TpuEff nD τ sig (Elt F) Λ₀ .tc) PUnit) :
    iprop(records m K
        ∗ (∃ W, owes (c : Thread nD τ) (0) W)
        ∗ qHas c rQ10 (q0 m (peer c))
        ∗ sHas c rS1 (sc m (peer c))
        ∗ (oLoc c ↦{fullShare} g)
        ∗ (cred (tallyAt (kcell (c, 2)) () (amt 2)) ∗ atPos ER (kcell (c, 2)) 0 ∅ 0)
        ∗ (cred (tallyAt (kcell (c, 4)) () (amt 4)) ∗ atPos ER (kcell (c, 4)) 0 ∅ 0))
      ⊢ iprop((iprop((∃ W, owes (c : Thread nD τ) (0) W)
        ∗ qHas c rQ10 (q0 m (peer c))
        ∗ qHas c rQ11 (q1 m (peer c))
        ∗ qAny c rQ01
        ∗ sHas c rS1 (sc m (peer c))
        ∗ (oLoc c ↦{fullShare} (oM.access rO0).write (Elt F) g (y0 m c) Finset.univ)
        ∗ semVal (kcell (c, 2)) 0
        ∗ semVal (kcell (c, 4)) 0) -∗ wp frame (wpE (defs₀ (F := F)) 𝒱₀ (c : Thread nD τ) none) Set.univ (kk (k0_pay12 (sc1 m (peer c)))) Q)
        -∗ wp frame (wpE (defs₀ (F := F)) 𝒱₀ (c : Thread nD τ) none) Set.univ (k0_part6 (Memref.whole main_arg0) (Memref.isWhole_whole _) (Memref.whole main_arg1) (Memref.isWhole_whole _) (Memref.whole cc0_stg0_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 cc0_scratch6 cc0_scratch7 cc0_scratch8 v5 v8 v9 (k0_pay2 (x0 m c) (wv m c)) (k0_pay10 (sc1 m (peer c))) >>= kk) Q) := by
  simp only [k0_part6_eq_skeleton]; unfold k0_part6_skel
  simp only [semSignalWord, semWaitWord, Prog.lift, Prog.bind_op, Prog.bind_ret, Prog.pure_eq_ret, wp_deviceId]
  iintro ⟨#HR, ⟨%W, HO⟩, Hq10, Hs1, Hout, ⟨Hc2, Ha2⟩, ⟨Hc4, Ha4⟩⟩ Hk
  iapply (wp_load_q c) $$ Hq10; iintro Hq10
  iapply (wp_load_rect 𝒱₀ (c : Thread nD τ) none Set.univ (m := oM) (r := rO0) (Finset.subset_univ _)) $$ Hout; iintro Hout
  iapply (wp_store 𝒱₀ (c : Thread nD τ) none Set.univ (m := oM) (r := rO0) (Mk := Finset.univ) (Finset.subset_univ _)) $$ Hout; iintro Hout
  -- the waits of the second half
  iapply (wp_wait_cell m K c 2 (dstw := qS rQ01 (fun _ => rfl) squeezes_S1x256x512_S256x512) rfl rfl) $$ [Hc2 HO Ha2]
  · isplitr; · iexact HR
    isplitl [Hc2]; · iexact Hc2
    isplitl [HO] <;> iassumption
  iintro ⟨HO, Hq01, Hz2⟩
  iapply (wp_wait_cell m K c 4 (dstw := qS rQ11 (fun _ => rfl) squeezes_S1x256x512_S256x512) rfl rfl) $$ [Hc4 HO Ha4]
  · isplitr; · iexact HR
    isplitl [Hc4]; · iexact Hc4
    isplitl [HO] <;> iassumption
  iintro ⟨HO, Hq11, Hz4⟩
  unfold pay
  iapply (wp_load_corner m c (peer c)) $$ Hs1; iintro Hs1
  iapply Hk
  isplitl [HO]; · iexists _; iexact HO
  isplitl [Hq10]; · iexact Hq10
  isplitl [Hq11]; · iexact Hq11
  isplitl [Hq01]; · iexact Hq01
  isplitl [Hs1]; · iexact Hs1
  isplitl [Hout]; · iexact Hout
  isplitl [Hz2] <;> iassumption

end Parts

set_option maxHeartbeats 800000 in
/-- The body run from `bodyPre` to `bodyPost`, a part at a time. -/
theorem sound_body (K : Dev nD × Fin 7 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole main_arg0) (Memref.isWhole_whole _) (Memref.whole main_arg1) (Memref.isWhole_whole _)
            (Memref.whole cc0_stg0_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7 cc0_scratch8) Kt := by
  simp only [cc0_body_eq_skeleton]; unfold cc0_body_skel
  unfold bodyPre ghost positions payToks creds scratch
  iintro ⟨⟨⟨⟨#HR, ⟨Ha0, Ha1, Ha2, Ha3, Ha4, Ha5, Ha6⟩, ⟨Ht0, Ht1, Ht2, Ht3, Ht4, Ht5, Ht6⟩, Hi0, Hi1⟩, ⟨Hc0, Hc3, Hc4, Hc6⟩, #Hlev, HA,
    Hx, Hw, Hq, Hs⟩, Ho, ⟨%d0, %g0, %hg0, Hout⟩⟩, Hk⟩
  unfold Dat.owesAt Pipeline.owesWithin
  icases Ho with ⟨%W, %hW, HO⟩
  rw [show (dats m ρ 0 c).owed t0_0.castSucc = O₀ c from rfl]
  ihave Hq := (q_split c) $$ Hq
  icases Hq with ⟨Hq00, Hq01, Hq10, Hq11, Hqr⟩
  ihave Hs := (s_split c) $$ Hs
  icases Hs with ⟨Hs0, Hs1, Hsr⟩
  iapply (run_part1 m K c Kt _) $$ [Ht0 Hq10 Hq11 Hs1 HO HA Hx Hw Hi0 Hi1]
  · isplitr; · iexact HR
    isplitr; · iexact Hlev
    isplitl [Ht0]; · iexact Ht0
    isplitl [Hq10]; · iexact Hq10
    isplitl [Hq11]; · iexact Hq11
    isplitl [Hs1]; · iexact Hs1
    isplitl [HO]; · iexists _; iexact HO
    isplitl [HA]; · iexact HA
    isplitl [Hx]; · unfold xAny; iexact Hx
    isplitl [Hw]; · iexact Hw
    isplitl [Hi0]; · iexact Hi0
    iexact Hi1
  iintro %v5 %v8 %v9 ⟨HO, HA, Hx, Hw, Hi0, Hi1⟩
  dsimp only
  iapply (run_part2 m K c Kt v9 _) $$ [Hc0 Ha0 HO HA Hx Hw Hi0 Hq00 Hs0]
  · isplitr; · iexact HR
    isplitr; · iexact Hlev
    isplitl [Hc0]; · iexact Hc0
    isplitl [Ha0]; · iexact Ha0
    isplitl [HO]; · iexact HO
    isplitl [HA]; · iexact HA
    isplitl [Hx]; · iexact Hx
    isplitl [Hw]; · iexact Hw
    isplitl [Hi0]; · iexact Hi0
    isplitl [Hq00]; · iexact Hq00
    iexact Hs0
  iintro %v56 %v57 ⟨HO, Hx, HB, Hw, Hq00, Hs0, Hp10, Hp11, Hps1, Hz0⟩
  dsimp only
  iapply (run_part3 m K c Kt v5 v8 v9 v56 v57 _ _) $$ [Ht1 Ht3 Ht5 Ht6 HO Hx Hw Hq00 Hs0 Hp10 Hps1]
  · isplitr; · iexact HR
    isplitr; · iexact Hlev
    isplitl [Ht1 Ht3 Ht5 Ht6]; · ((isplitl [Ht1]; · iexact Ht1); (isplitl [Ht3]; · iexact Ht3); (isplitl [Ht5]; · iexact Ht5); iexact Ht6)
    isplitl [HO]; · iexact HO
    isplitl [Hx]; · iexact Hx
    isplitl [Hw]; · iexact Hw
    isplitl [Hq00]; · iexact Hq00
    isplitl [Hs0]; · iexact Hs0
    isplitl [Hp10]; · iexact Hp10
    iexact Hps1
  iintro ⟨HO, HA, Hx, Hw, Hc1, Hc5, Hi0⟩
  dsimp only
  iapply (run_part4 m K c Kt v5 v8 v9 _) $$ [Ht2 Ht4 HO Hq01 Hp11 Hc1 Ha1]
  · isplitr; · iexact HR
    isplitl [Ht2]; · iexact Ht2
    isplitl [Ht4]; · iexact Ht4
    isplitl [HO]; · iexact HO
    isplitl [Hq01]; · iexact Hq01
    isplitl [Hp11]; · iexact Hp11
    isplitl [Hc1]; · iexact Hc1
    iexact Ha1
  iintro ⟨HO, Hc2, Hq00, Hz1⟩
  dsimp only
  iapply (run_part5 m K c Kt v5 v8 v9 _) $$ [HO Hc3 Ha3 Hc5 Ha5 Hc6 Ha6]
  · isplitr; · iexact HR
    isplitl [HO]; · iexact HO
    isplitl [Hc3 Ha3]; · ((isplitl [Hc3]; · iexact Hc3); iexact Ha3)
    isplitl [Hc5 Ha5]; · ((isplitl [Hc5]; · iexact Hc5); iexact Ha5)
    ((isplitl [Hc6]; · iexact Hc6); iexact Ha6)
  iintro ⟨HO, Hq10, Hs0, Hs1, Hz3, Hz5, Hz6⟩
  dsimp only
  iapply (run_part6 m K c Kt g0 v5 v8 v9 _) $$ [HO Hq10 Hs1 Hout Hc2 Ha2 Hc4 Ha4]
  · isplitr; · iexact HR
    isplitl [HO]; · iexact HO
    isplitl [Hq10]; · iexact Hq10
    isplitl [Hs1]; · iexact Hs1
    isplitl [Hout]; · iexact Hout
    isplitl [Hc2 Ha2]; · ((isplitl [Hc2]; · iexact Hc2); iexact Ha2)
    ((isplitl [Hc4]; · iexact Hc4); iexact Ha4)
  iintro ⟨⟨%W', HO⟩, Hq10, Hq11, Hq01, Hs1, Hout, Hz2, Hz4⟩
  dsimp only
  simp only [semSignalWord, semWaitWord, Prog.lift, Prog.bind_op, Prog.bind_ret, Prog.pure_eq_ret, wp_deviceId]
  iapply (wp_load_q c) $$ Hq11; iintro Hq11
  iapply (wp_load_rect 𝒱₀ (c : Thread nD τ) none Set.univ (m := oM) (r := rO1) (Finset.subset_univ _)) $$ Hout; iintro Hout
  iapply (wp_store 𝒱₀ (c : Thread nD τ) none Set.univ (m := oM) (r := rO1) (Mk := Finset.univ) (Finset.subset_univ _)) $$ Hout; iintro Hout
  rw [wp_ret]; imodintro
  iapply Hk
  unfold bodyPost Φ₁ Dat.owesAt Pipeline.owesWithin args scratch zeros
  rw [show (dats m ρ 0 c).owed t0_0.succ = 0 from rfl]
  isplitl [HA HB Hx Hw Hq00 Hq01 Hq10 Hq11 Hqr Hs0 Hs1 Hsr Hi0 Hi1 Hz0 Hz1 Hz2 Hz3 Hz4 Hz5 Hz6]
  · isplitl [HA HB]
    · isplitl [HA]; · iexact HA
      iexact HB
    isplitl [Hx Hw Hq00 Hq01 Hq10 Hq11 Hqr Hs0 Hs1 Hsr]
    · isplitl [Hx]; · unfold xAny; iexact Hx
      isplitl [Hw]; · iexists _; iexact Hw
      isplitl [Hq00 Hq01 Hq10 Hq11 Hqr]
      · iapply (q_join c)
        isplitl [Hq00]; · iexact Hq00
        isplitl [Hq01]; · iexact Hq01
        isplitl [Hq10]; · iapply (q_drop c); iexact Hq10
        isplitl [Hq11]; · iapply (q_drop c); iexact Hq11
        iexact Hqr
      iapply (s_join c)
      isplitl [Hs0]; · iexact Hs0
      isplitl [Hs1]; · iapply (s_drop c); iexact Hs1
      iexact Hsr
    isplitr [Hz0]
    · isplitl [Hi0]; · iexact Hi0
      isplitl [Hi1]; · iexact Hi1
      isplitl [Hz1]; · iexact Hz1
      isplitl [Hz2]; · iexact Hz2
      isplitl [Hz3]; · iexact Hz3
      isplitl [Hz4]; · iexact Hz4
      isplitl [Hz5] <;> iassumption
    iexact Hz0
  isplitl [HO]
  · iexists _
    isplitr [HO]
    swap; · iexact HO
    ipureintro; exact fun _ _ => Or.inl trivial
  iexists _
  isplitr [Hout]
  swap; · iexact Hout
  ipureintro; exact out_eq m c g0

end Cert.Exchange

end
-- ==== Proof.Run.lean ====
/-
# The run of the whole mesh

The body of every device put under the launch: the cells of all devices are opened from the counters at zero, each
device is handed its positions, its duty tokens (those of its peer's cells included) and the credit its peer owes it,
and every final state has each device's result array at `outAt`, its arguments unchanged and every counter at zero.
-/
module

public import proofs.«01_k».proof.Proof.Sound
public import proofs.«01_k».proof.Proof.Gen.KernelIdeal.Points
public import Idealize.ShloMosaic.Lib.Pipeline.CollectiveSegs
public import Idealize.ShloMosaic.Lib.Pipeline.ValueKit

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

/-- What the one grid point starts from. -/
def pointPre (c : Dev nD) : sProp 𝕄 :=
  iprop(Φ₀ m c ∗ (dats m ρ 0 c).owesAt () t0_0.castSucc ∗ (∃ d, stg c cc0_stg0_0 ((dats m ρ 0 c).before (0 : Fin 1) t0_0 d)))

theorem pointPre_open (c : Dev nD) : pointPre m ρ c ⊢ iprop(∃ K, bodyPre m ρ K c) := by
  unfold pointPre Φ₀ start bodyPre
  iintro ⟨⟨⟨⟨%K, Hg⟩, Hc, Hl, Ha⟩, Hs⟩, Ho, Hx⟩
  iexists K
  isplitl [Hg Hc Hl Ha Hs]
  · isplitl [Hg]; · iexact Hg
    isplitl [Hc]; · iexact Hc
    isplitl [Hl]; · iexact Hl
    isplitl [Ha] <;> iassumption
  isplitl [Ho] <;> iassumption

set_option maxRecDepth 4000 in
theorem body_obligation (c : Dev nD) : BodyObligation (dats m ρ 0 c) (defs₀ (F := F)) 𝒱₀ () Set.univ := fun t => by
  rw [fin_N0 t, bigSep_W0, bigSep_W0]
  simp only [owns_whole_eq]
  show pointPre m ρ c ⊢ wp frame (wpE (defs₀ (F := F)) 𝒱₀ c none) Set.univ
    (cc0_body (Memref.whole main_arg0) (Memref.isWhole_whole _) (Memref.whole main_arg1) (Memref.isWhole_whole _)
      (Memref.whole cc0_stg0_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7 cc0_scratch8)
    (fun _ => bodyPost m ρ c)
  iintro H
  ihave H := (pointPre_open m ρ c) $$ H
  icases H with ⟨%K, H⟩
  iapply (sound_body m ρ K c fun _ => bodyPost m ρ c)
  isplitl [H]; · iexact H
  iintro H; iexact H

theorem ownSemFacts : Pipeline.OwnSemFacts cfg0.spec osem := by decide

theorem share_eq (c : Dev nD) (w : Fin cfg0.W) : (dats m ρ 0 c).share w = fullShare := by unfold Dat.share; split <;> rfl

/-! ## What the launch deals each device -/

def pairCells : Finset (GSem nD τ sig) := Finset.univ.map ⟨kcell, kcell_injective⟩
def pairToks : Finset (GSem nD τ sig × ℕ × Unit) :=
  Finset.univ.map ⟨fun ck => (kcell ck, 0, ()), fun _ _ h => kcell_injective (congrArg Prod.fst h)⟩

/-- The launch's element: the pipeline's cells, the pair's cells, no counter. -/
def u₀ : UU := (initOf (Pipeline.cells cfgs cellOf_inj) (Pipeline.launchToks cfgs cellOf_inj), (initOf pairCells pairToks, 1))

abbrev allK (Φ : Fin 7 → sProp 𝕄) : sProp 𝕄 := bigSep Finset.univ Φ

def dealt (c : Dev nD) : sProp 𝕄 :=
  iprop((allK fun k => roundState ER (Rd m) (kcell (c, k)) 0) ∗ (allK fun k => reached ER (kcell (c, k)) 0)
    ∗ (allK fun k => atPos ER (kcell (c, k)) 0 ∅ 0) ∗ allK fun k => dutyTok ER (kcell (c, k)) 0 ())

omit [FloatOps F] in
theorem fin7 (Φ : Fin 7 → sProp 𝕄) : allK Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_pair : BI.own (ER (initOf pairCells pairToks)) ⊢ (|==> bigSep Finset.univ (dealt m) : sProp 𝕄) := by
  have hC (Φ : GSem nD τ sig → sProp 𝕄) : bigSep pairCells Φ = bigSep Finset.univ fun c : Dev nD => allK fun k => Φ (kcell (c, k)) := by
    unfold pairCells; rw [bigSep_map, bigSep_univ_prod]; rfl
  have hT : bigSep pairToks (fun x => (dutyTok ER x.1 x.2.1 x.2.2 : sProp 𝕄))
      = bigSep Finset.univ fun c : Dev nD => allK fun k => dutyTok ER (kcell (c, k)) 0 () := by
    unfold pairToks; rw [bigSep_map, bigSep_univ_prod]; rfl
  unfold dealt
  simp only [bigSep_sep', ← hC (fun g => roundState ER (Rd m) g 0), ← hC (fun g => reached ER g 0), ← hC (fun g => atPos ER g 0 ∅ 0), ← hT]
  exact Rounds.fund ER (Rd m) pairCells pairToks

/-! ## The cells opened -/

/-- One device's counters at zero: its seven cells' and the two local transfers'. -/
def counters (c : Dev nD) : sProp 𝕄 :=
  iprop((allK fun k => semVal (kcell (c, k)) 0) ∗ semVal ((c : Thread nD τ), osem 0) 0 ∗ semVal ((c : Thread nD τ), osem 1) 0)

omit [FloatOps F] in
theorem ownSems_eq (c : Dev nD) : (Pipeline.ownSems0 (Ix := Unit) (Name := ℕ) (U := UU) (Lvl := ℕ) (Val := Elt F) (τ := τ) osem c : sProp 𝕄)
    = iprop(semVal ((c : Thread nD τ), osem 0) 0 ∗ semVal ((c : Thread nD τ), osem 1) 0 ∗ semVal ((c : Thread nD τ), osem 2) 0
      ∗ semVal ((c : Thread nD τ), osem 3) 0 ∗ semVal ((c : Thread nD τ), osem 4) 0 ∗ semVal ((c : Thread nD τ), osem 5) 0
      ∗ semVal ((c : Thread nD τ), osem 6) 0 ∗ semVal ((c : Thread nD τ), osem 7) 0) := by
  rw [Pipeline.ownSems0_eq_of_list c osem [0, 1, 2, 3, 4, 5, 6, 7] (by decide) (by decide)]; rfl
omit [FloatOps F] in
theorem unscopedSems_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
theorem counters_intro (c : Dev nD) :
    iprop(Pipeline.ownSems0 (Ix := Unit) (Name := ℕ) (U := UU) (Lvl := ℕ) (Val := Elt F) (τ := τ) osem c ∗ unscopedSems0 c) ⊢ (counters c : sProp 𝕄) := by
  unfold counters
  rw [ownSems_eq, unscopedSems_eq, fin7]
  iintro ⟨⟨H0, H1, H2, H3, H4, H5, H6, H7⟩, HB⟩
  isplitl [HB H2 H3 H4 H5 H6 H7]
  · isplitl [HB]; · iexact HB
    isplitl [H2]; · iexact H2
    isplitl [H3]; · iexact H3
    isplitl [H4]; · iexact H4
    isplitl [H5]; · iexact H5
    isplitl [H6]; · iexact H6
    iexact H7
  isplitl [H0] <;> iassumption

/-- What one device has after its cells' invariants are made. -/
def opened (c : Dev nD) : sProp 𝕄 :=
  iprop((allK fun k => iprop(∃ κ : ℕ, cellInv ER (Rd m) κ (kcell (c, k)))) ∗ (allK fun k => reached ER (kcell (c, k)) 0)
    ∗ (allK fun k => atPos ER (kcell (c, k)) 0 ∅ 0) ∗ (allK fun k => dutyTok ER (kcell (c, k)) 0 ())
    ∗ semVal ((c : Thread nD τ), osem 0) 0 ∗ semVal ((c : Thread nD τ), osem 1) 0)

theorem make_cells (c : Dev nD) :
    iprop((allK fun k => semVal (kcell (c, k)) 0) ∗ allK fun k => roundState ER (Rd m) (kcell (c, k)) 0)
      ⊢ (|={Set.univ}=> allK fun k => iprop(∃ κ : ℕ, cellInv ER (Rd m) κ (kcell (c, k))) : sProp 𝕄) := by
  unfold allK
  rw [← bigSep_sep']
  exact BIBase.Entails.trans (bigSep_mono fun k _ => BIBase.Entails.trans (Rounds.body_intro ER (Rd m) (kcell (c, k))) inv_alloc) (bigSep_fupd _ _)

theorem open_device (c : Dev nD) :
    iprop(Pipeline.ownSems0 (Ix := Unit) (Name := ℕ) (U := UU) (Lvl := ℕ) (Val := Elt F) (τ := τ) osem c ∗ unscopedSems0 c ∗ dealt m c)
      ⊢ |={Set.univ}=> opened m c := by
  unfold dealt opened
  iintro ⟨Hos, Hus, Hst, Hr, Hat, Htok⟩
  ihave Hv := (counters_intro (F := F) c) $$ [Hos Hus]
  · isplitl [Hos] <;> iassumption
  unfold counters
  icases Hv with ⟨Hv, H0, H1⟩
  imod (make_cells m c) $$ [Hv Hst] with Hinv
  · isplitl [Hv] <;> iassumption
  imodintro
  isplitl [Hinv]; · iexact Hinv
  isplitl [Hr]; · iexact Hr
  isplitl [Hat]; · iexact Hat
  isplitl [Htok]; · iexact Htok
  isplitl [H0] <;> iassumption

/-! ## The ghost state dealt -/

omit [FloatOps F] in
/-- A cell's token handed to the peer. -/
theorem tok_across (k : Fin 7) : (bigSep Finset.univ fun c : Dev nD => (dutyTok ER (kcell (c, k)) 0 () : sProp 𝕄))
    = bigSep Finset.univ fun c : Dev nD => dutyTok ER (kcell (peer c, k)) 0 () :=
  bigSep_univ_equiv pairing _

omit [FloatOps F] in
theorem toks_across : (bigSep Finset.univ fun c : Dev nD => (allK fun k => dutyTok ER (kcell (c, k)) 0 () : sProp 𝕄))
    ⊢ bigSep Finset.univ fun c : Dev nD => payToks c := by
  unfold payToks
  simp only [fin7, bigSep_sep']
  rw [tok_across 0, tok_across 3, tok_across 4, tok_across 6]

def dealtGhost (c : Dev nD) : sProp 𝕄 := iprop(∃ K, ghost m K c)

theorem ghost_intro (K : Dev nD × Fin 7 → ℕ) (c : Dev nD) :
    iprop(records m K ∗ (allK fun k => atPos ER (kcell (c, k)) 0 ∅ 0) ∗ payToks c
      ∗ semVal ((c : Thread nD τ), osem 0) 0 ∗ semVal ((c : Thread nD τ), osem 1) 0) ⊢ dealtGhost m c := by
  unfold dealtGhost ghost positions
  rw [fin7]
  iintro H
  iexists K
  iexact H

theorem regroup : bigSep Finset.univ (opened m) ⊢ (bigSep Finset.univ (dealtGhost m) : sProp 𝕄) := by
  unfold opened
  simp only [bigSep_sep']
  unfold allK
  rw [← bigSep_univ_prod (fun ck : Dev nD × Fin 7 => iprop(∃ κ : ℕ, cellInv ER (Rd m) κ (kcell ck))),
    ← bigSep_univ_prod (fun ck : Dev nD × Fin 7 => (reached ER (kcell ck) 0 : sProp 𝕄))]
  iintro ⟨HI, Hr, Hat, Htok, H0, H1⟩
  ihave HK := (BI.bigSep_exists_pi Finset.univ (fun (ck : Dev nD × Fin 7) (κ : ℕ) => (cellInv ER (Rd m) κ (kcell ck) : sProp 𝕄))) $$ HI
  icases HK with ⟨%K, HI⟩
  ihave HR := (show iprop((bigSep Finset.univ fun ck => (cellInv ER (Rd m) (K ck) (kcell ck) : sProp 𝕄)) ∗ bigSep Finset.univ fun ck => reached ER (kcell ck) 0)
    ⊢ records m K from Entails.of_eq (by unfold records; rw [bigSep_sep'])) $$ [HI Hr]
  · isplitl [HI] <;> iassumption
  ihave HRs := (BI.bigSep_of_persistent (Finset.univ : Finset (Dev nD)) (records m K)) $$ HR
  ihave Htok := (toks_across (F := F)) $$ Htok
  iapply (show iprop((bigSep Finset.univ fun _ : Dev nD => records m K)
      ∗ (bigSep Finset.univ fun c : Dev nD => bigSep Finset.univ fun k : Fin 7 => (atPos ER (kcell (c, k)) 0 ∅ 0 : sProp 𝕄))
      ∗ (bigSep Finset.univ fun c : Dev nD => payToks c)
      ∗ (bigSep Finset.univ fun c : Dev nD => semVal ((c : Thread nD τ), osem 0) 0)
      ∗ (bigSep Finset.univ fun c : Dev nD => semVal ((c : Thread nD τ), osem 1) 0)) ⊢ (bigSep Finset.univ (dealtGhost m) : sProp 𝕄) from by
    simp only [← bigSep_sep']
    exact bigSep_mono fun c _ => ghost_intro m K c)
  isplitl [HRs]; · iexact HRs
  isplitl [Hat]; · iexact Hat
  isplitl [Htok]; · iexact Htok
  isplitl [H0] <;> iassumption

/-- All devices' cells opened at once. -/
theorem glob : (bigSep Finset.univ fun c => iprop(Pipeline.ownSems0 (Ix := Unit) (Name := ℕ) (U := UU) (Lvl := ℕ) (Val := Elt F) (τ := τ) osem c
      ∗ unscopedSems0 c ∗ dealt m c) : sProp 𝕄)
    ⊢ |={Set.univ}=> bigSep Finset.univ (dealtGhost m) :=
  BIBase.Entails.trans (BIBase.Entails.trans (bigSep_mono fun c _ => open_device m c) (bigSep_fupd _ _)) (BI.fupd_mono (regroup m))

/-! ## The credit the peer owes -/

omit [FloatOps F] in
theorem due_at (d c : Dev nD) (j k : Fin 7) : due d j (kcell (c, k)) () = if d = peer c then (if k = j then amt j else 0) else 0 := by
  unfold due
  rw [tallyAt_apply]
  by_cases h : d = peer c
  · subst h
    rw [if_pos rfl, peer_peer]
    by_cases hk : k = j
    · subst hk; rw [if_pos rfl, if_pos ⟨rfl, rfl⟩]
    · rw [if_neg hk, if_neg fun h' => hk (congrArg Prod.snd (kcell_injective h'.1))]
  · rw [if_neg h, if_neg fun h' => h (by have := congrArg Prod.fst (kcell_injective h'.1); rw [show c = peer d from this, peer_peer])]

omit [FloatOps F] in
theorem owed_at (d c : Dev nD) (k : Fin 7) (hk : k = 0 ∨ k = 3 ∨ k = 4 ∨ k = 6) :
    O₀ d (kcell (c, k)) () = if d = peer c then amt k else 0 := by
  unfold O₀ O₁ O₂ O₃
  simp only [Pi.add_apply, Finsupp.add_apply, due_at]
  by_cases h : d = peer c
  · simp only [if_pos h]
    rcases hk with rfl | rfl | rfl | rfl <;> simp
  · simp only [if_neg h]

omit [FloatOps F] in
theorem launch_at (c : Dev nD) (k : Fin 7) (hk : k = 0 ∨ k = 3 ∨ k = 4 ∨ k = 6) :
    tallyOn (kcell (c, k)) (launchCredit (Pipeline.owing O₀) 0 (kcell (c, k))) = (tallyAt (kcell (c, k)) () (amt k) : CellTallies nD τ sig Unit) := by
  unfold tallyAt
  refine congrArg _ (Finsupp.ext fun u => ?_)
  cases u
  rw [Pipeline.launchCredit_owing, Finsupp.single_eq_same, Finset.sum_congr rfl fun d _ => owed_at d c k hk,
    Finset.sum_ite_eq' Finset.univ (peer c) fun _ => amt k, if_pos (Finset.mem_univ _)]

omit [FloatOps F] in
theorem creds_intro (c : Dev nD) : (Pipeline.launchCred O₀ c : sProp 𝕄) ⊢ creds c := by
  unfold Pipeline.launchCred creds
  rw [← launch_at c 0 (by decide), ← launch_at c 3 (by decide), ← launch_at c 4 (by decide), ← launch_at c 6 (by decide)]
  rw [bigSep_univ_at _ (csem 0), bigSep_erase (i := csem 3) (by decide), bigSep_erase (i := csem 4) (by decide)]
  exact sep_mono_right (sep_mono_right (sep_mono_right (bigSep_elim (show csem 6 ∈ ((Finset.univ.erase (csem 0)).erase (csem 3)).erase (csem 4) by decide))))

/-! ## Entry, exit, reading the end -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealtGhost m c)
      ⊢ |={Set.univ}=> iprop(start m c ∗ emp) := by
  rw [Pipeline.unscopedRestP_none, show (Pipeline.unscopedRest cfg0.spec c (fun b => m ((c : Thread nD τ).loc b)) : sProp 𝕄) = args m c from unscopedRest0_eq c _]
  iintro ⟨Ha, Hlev, Hcr, -, HG⟩
  ihave Hc := (creds_intro (F := F) c) $$ Hcr
  imodintro
  unfold start dealtGhost
  isplitl
  · isplitl [HG]; · iexact HG
    isplitl [Hc]; · iexact Hc
    isplitl [Hlev] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest cfg0.spec c : sProp 𝕄) = scratch c from scopedRest0_eq c]
  unfold Φ₀
  iintro ⟨Hs, -, Hr⟩
  isplitl [Hs] <;> iassumption

theorem leave (c : Dev nD) :
    (dats m ρ 0 c).Φ (Fin.last cfg0.N) ⊢ iprop((unscopedSems0 c ∗ args m c) ∗ Pipeline.ownSems0 osem c ∗ Pipeline.scopedRest cfg0.spec c) := by
  rw [show (dats m ρ 0 c).Φ (Fin.last cfg0.N) = Φ₁ m c from rfl, show (Pipeline.scopedRest cfg0.spec c : sProp 𝕄) = scratch c from scopedRest0_eq c,
    ownSems_eq, unscopedSems_eq]
  unfold Φ₁ zeros
  iintro ⟨Ha, Hs, Hz, HB⟩
  isplitl [Ha HB]
  · isplitl [HB] <;> iassumption
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_O₀ c _ (by fin_cases w <;> fin_cases s <;> decide)
    · rw [show (dats m ρ 0 c).owed ⟨_ + 1, ht⟩ = 0 from rfl, MayWait_zero]
      iintro -
      iempintro

/-- What is read of a device at the end besides its result. -/
def ends (c : Dev nD) (s : MemSt nD τ sig (Elt F)) : Prop :=
  (s.mem (aLoc c) = m (aLoc c) ∧ s.mem (bLoc c) = m (bLoc c))
    ∧ ∀ sm : SemLoc sig, sm.isScoped .tc = false → s.sem ((c.tc : Thread nD τ), sm) = 0

theorem read_ends (c : Dev nD) (s' : Phys nD τ sig (Elt F)) :
    iprop((unscopedSems0 c ∗ args m c) ∗ emp ∗ SI s') ⊢ (|={Set.univ}=> iprop(⌜ends m c s'.mem⌝ ∗ SI s') : sProp 𝕄) := by
  unfold args
  iintro ⟨⟨Hu, Ha, Hb⟩, -, HSI⟩
  icombine HSI Ha gives %ha
  icombine HSI Hb gives %hb
  imod (Pipeline.unscopedSems0_read (X := unscopedSems0 c) (c := c) fupd_intro s') $$ [Hu HSI] with ⟨%hz, HSI⟩
  · isplitl [Hu] <;> iassumption
  imodintro
  isplitr
  · ipureintro; exact ⟨⟨Buf.eq_of_forall_mem_univ ha, Buf.eq_of_forall_mem_univ hb⟩, hz⟩
  iexact HSI

/-! ## The result array -/

theorem arr_out (c : Dev nD) : (dats m ρ 0 c).arrAt 0 cfg0.N = outAt m c := by
  refine (dats m ρ 0 c).arrAt_eq_of_after_last 0 t0_0 (by decide +kernel) _ fun j => ?_
  rfl

/-! ## The run -/

/-- Every device's result array at `outAt`, its arguments unchanged. -/
def Final (r : PUnit × MemSt nD τ sig (Elt F)) : Prop :=
  ∀ c : Dev nD, r.2.mem ((c : Thread nD τ).loc main_v1) = outAt m c ∧ r.2.mem (aLoc c) = m (aLoc c) ∧ r.2.mem (bLoc c) = m (bLoc c)

set_option maxRecDepth 8000 in
/-- On the mesh of 32 devices, for any float values, from any memory with zero counters: every weakly fair execution of
    `main` terminates without fault, and every final state has each device's result array at `outAt`, its argument arrays
    unchanged and every semaphore counter at zero. -/
theorem run_main : θ_run defs (onTc (τ := τ) (main (F := F))) (s₀ m ρ) (fun r => Final m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m) (G' := dealtGhost m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (fund_pair m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := enter m ρ) (hout := leave m ρ)
    (QY := ends m) (hY := read_ends m)
    (hQ := fun _ h hs => ⟨fun c => ⟨((h c).1 0).trans (arr_out m ρ c), (h c).2.2.1⟩, sem_eq_zero hs fun c => (h c).2.2.2⟩)

end Cert.Exchange

end
-- ==== Proof.Frames.lean ====
/-
# The frames of the kernel

Both frames from the one run: it is proved over any float values, and the kernel and its idealization have one text.
-/
module

public import proofs.«01_k».proof.Defs
public import proofs.«01_k».proof.Proof.Run
public import proofs.«01_k».proof.Proof.Gen.Kernel

@[expose] public section

namespace Cert.Exchange

open Idealize.ShloMosaic Idealize.SL.Sem

theorem frame_kernelIdeal : Cert.quiescent_KernelIdeal := fun m ρ _ =>
  (θ_run Cert.KernelIdeal.defs _ _).mono (fun _ h => ⟨fun c => (h.1 c).2, h.2⟩) (run_main (F := Ideal) m ρ)

theorem run_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => (h.1 c).2, h.2⟩) (run_main (F := Bits) m ρ)

set_option maxRecDepth 8000 in
/-- The two body tables are one: they take the cases of the label apart separately, and agree at the one label. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl

set_option maxRecDepth 8000 in
theorem defs_eq : Cert.Kernel.defs (F := Bits) = Cert.KernelIdeal.defs (F := Bits) := by
  unfold Cert.Kernel.defs Cert.KernelIdeal.defs
  rw [defs₀_eq]
  rfl

set_option maxRecDepth 8000 in
theorem frame_kernel : Cert.quiescent_Kernel := fun m ρ _ => by
  rw [defs_eq]
  exact run_bits m ρ

end Cert.Exchange
-- ==== Proof.Codec.lean ====
module

public import Idealize.ShloMosaic.Lib.Pointwise
public import Mathlib.Tactic.IntervalCases
public import Mathlib.Tactic.Linarith

/-!
The int8 code of one number, over the extended reals.

The kernel multiplies by the reciprocal of the scale and converts straight to eight bits; on the
first half of the rows it does not clip.  The reference divides by the scale, clips to ±127, and
goes through thirty-two bits.  Both give the same integer.
-/

@[expose] public section

namespace Cert.Exchange

open Idealize.ShloMosaic

/-- The factor in front of the largest absolute value. -/
noncomputable abbrev headroom : EReal := Ideal.ofBits .f32 0x3C214285#32

/-- The small number that keeps a scale away from zero. -/
noncomputable abbrev floorScale : EReal := Ideal.ofBits .f32 0x0DA24260#32

noncomputable abbrev hiCode : EReal := Ideal.ofBits .f32 0x42FE0000#32

noncomputable abbrev loCode : EReal := Ideal.ofBits .f32 0xC2FE0000#32

/-- The scale of a block whose first half has largest absolute value `M`. -/
noncomputable def scaleOf (M : EReal) : EReal := M * headroom + floorScale

/-- What one number comes back as, the reference's way. -/
noncomputable def decoded (v s : EReal) : EReal :=
  ((((((Ideal.fptosi 32 (min hiCode (max loCode (Ideal.liftRound Ideal.roundHalfEven
    (Ideal.div v s))))).truncate 8).signExtend 32).toInt : ℤ) : ℝ) : EReal) * s

theorem hiCode_eq : hiCode = ((127 : ℝ) : EReal) := by
  simp [Ideal.ofBits, Ideal.ieee, -EReal.coe_mul]; norm_num

theorem loCode_eq : loCode = ((-127 : ℝ) : EReal) := by
  simp [Ideal.ofBits, Ideal.ieee, -EReal.coe_mul, -EReal.coe_neg]; norm_num

theorem headroom_eq : ∃ a : ℝ, headroom = (a : EReal) ∧ 1 / 126 < a := by
  refine ⟨10568325 * (2 : ℝ) ^ (-30 : ℤ), ?_, by norm_num⟩
  simp [Ideal.ofBits, Ideal.ieee, -EReal.coe_mul]

theorem floorScale_eq : ∃ b : ℝ, floorScale = (b : EReal) ∧ 0 < b := by
  refine ⟨10633824 * (2 : ℝ) ^ (-123 : ℤ), ?_, by positivity⟩
  simp [Ideal.ofBits, Ideal.ieee, -EReal.coe_mul]

theorem scaleOf_top : scaleOf ⊤ = ⊤ := by
  obtain ⟨a, ha, ha'⟩ := headroom_eq
  obtain ⟨b, hb, -⟩ := floorScale_eq
  rw [scaleOf, ha, hb, EReal.top_mul_coe_of_pos (by linarith)]
  rfl

theorem scaleOf_coe (M : ℝ) (hM : 0 ≤ M) :
    ∃ s : ℝ, scaleOf M = (s : EReal) ∧ 0 < s ∧ M ≤ 126 * s := by
  obtain ⟨a, ha, ha'⟩ := headroom_eq
  obtain ⟨b, hb, hb'⟩ := floorScale_eq
  refine ⟨M * a + b, ?_, ?_, ?_⟩
  · rw [scaleOf, ha, hb]; norm_cast
  · have : 0 ≤ M * a := mul_nonneg hM (by linarith)
    linarith
  · nlinarith

theorem scaleOf_ne_zero {M : EReal} (hM : 0 ≤ M) : scaleOf M ≠ 0 := by
  induction M with
  | bot => simp at hM
  | top => simp [scaleOf_top]
  | coe M =>
    obtain ⟨s, hs, h0, -⟩ := scaleOf_coe M (by exact_mod_cast hM)
    rw [hs]; exact_mod_cast h0.ne'

/-- Multiplying by the reciprocal is dividing. -/
theorem mul_recip {M : EReal} (hM : 0 ≤ M) (v : EReal) :
    v * Ideal.div 1 (scaleOf M) = Ideal.div v (scaleOf M) := by
  have h := scaleOf_ne_zero hM
  simp [Ideal.div, h]

theorem roundHalfEven_bounds {r : ℝ} (h : |r| ≤ 126) :
    -127 ≤ Ideal.roundHalfEven r ∧ Ideal.roundHalfEven r ≤ 127 := by
  obtain ⟨h1, h2⟩ := abs_le.mp h
  have f1 : (-126 : ℤ) ≤ ⌊r⌋ := Int.le_floor.mpr (by exact_mod_cast h1)
  have f2 : ⌊r⌋ ≤ 126 := by
    have := Int.floor_le r
    exact_mod_cast (this.trans h2)
  unfold Ideal.roundHalfEven
  dsimp only
  split_ifs <;> omega

/-- The clipped value is one of the integers of eight bits. -/
theorem clip_code (f : ℝ → ℤ) (x : EReal) : ∃ n : ℤ, -127 ≤ n ∧ n ≤ 127 ∧
    min hiCode (max loCode (Ideal.liftRound f x)) = ((n : ℝ) : EReal) := by
  rw [hiCode_eq, loCode_eq]
  induction x with
  | bot => exact ⟨-127, by norm_num, by norm_num, by
      rw [Ideal.liftRound_bot, max_eq_left bot_le, min_eq_right (by norm_cast)]; norm_num⟩
  | top => exact ⟨127, by norm_num, by norm_num, by
      rw [Ideal.liftRound_top, max_eq_right le_top, min_eq_left le_top]; norm_cast⟩
  | coe r =>
    refine ⟨min 127 (max (-127) (f r)), by omega, by omega, ?_⟩
    rw [Ideal.liftRound_coe]
    push_cast
    simp only [EReal.coe_strictMono.monotone.map_min, EReal.coe_strictMono.monotone.map_max]
    rfl

theorem toInt_fptosi8 {n : ℤ} (h1 : -127 ≤ n) (h2 : n ≤ 127) :
    (Ideal.fptosi 8 ((n : ℝ) : EReal)).toInt = n := by
  have hn : (if (0 : ℝ) ≤ n then ⌊(n : ℝ)⌋ else ⌈(n : ℝ)⌉) = n := by split_ifs <;> simp
  rw [Ideal.fptosi, Ideal.toIntClamped_coe, hn, BitVec.toInt_ofInt]
  norm_num
  rw [min_eq_right (by omega), max_eq_right (by omega)]
  exact Int.bmod_eq_of_le (by omega) (by omega)

theorem toInt_fptosi32 {n : ℤ} (h1 : -127 ≤ n) (h2 : n ≤ 127) :
    (((Ideal.fptosi 32 ((n : ℝ) : EReal)).truncate 8).signExtend 32).toInt = n := by
  have hn : (if (0 : ℝ) ≤ n then ⌊(n : ℝ)⌋ else ⌈(n : ℝ)⌉) = n := by split_ifs <;> simp
  have h : Ideal.fptosi 32 ((n : ℝ) : EReal) = BitVec.ofInt 32 n := by
    rw [Ideal.fptosi, Ideal.toIntClamped_coe, hn]
    norm_num
    rw [min_eq_right (by omega), max_eq_right (by omega)]
  rw [h]
  interval_cases n <;> rfl

/-- The clipped chunk: the kernel's code decodes to the reference's. -/
theorem decoded_clipped {M : EReal} (hM : 0 ≤ M) (v : EReal) :
    (((Ideal.fptosi 8 (min hiCode (max loCode (Ideal.liftRound Ideal.roundHalfEven
      (v * Ideal.div 1 (scaleOf M)))))).toInt : ℝ) : EReal) * scaleOf M = decoded v (scaleOf M) := by
  rw [mul_recip hM, decoded]
  obtain ⟨n, h1, h2, h⟩ := clip_code Ideal.roundHalfEven (Ideal.div v (scaleOf M))
  rw [h, toInt_fptosi8 h1 h2, toInt_fptosi32 h1 h2]

/-- On the chunk the scale was taken from no rounded value leaves the range of the code. -/
theorem unclipped {M v : EReal} (hM : 0 ≤ M) (h1 : v ≤ M) (h2 : -v ≤ M) :
    min hiCode (max loCode (Ideal.liftRound Ideal.roundHalfEven (Ideal.div v (scaleOf M))))
      = Ideal.liftRound Ideal.roundHalfEven (Ideal.div v (scaleOf M)) := by
  have key : ∃ r : ℝ, Ideal.div v (scaleOf M) = (r : EReal) ∧ |r| ≤ 126 := by
    induction M with
    | bot => simp at hM
    | top => exact ⟨0, by simp [scaleOf_top, Ideal.div], by norm_num⟩
    | coe M =>
      have hM' : 0 ≤ M := by exact_mod_cast hM
      obtain ⟨s, hs, h0, hb⟩ := scaleOf_coe M hM'
      induction v with
      | bot => simp at h2
      | top => simp at h1
      | coe v =>
        have h1' : v ≤ M := by exact_mod_cast h1
        have h2' : -v ≤ M := by exact_mod_cast h2
        refine ⟨v * s⁻¹, ?_, ?_⟩
        · rw [hs, Ideal.div, if_neg (by exact_mod_cast h0.ne')]; norm_cast
        · rw [← div_eq_mul_inv, abs_div, abs_of_pos h0, div_le_iff₀ h0]
          exact (abs_le'.mpr ⟨h1', h2'⟩).trans hb
  obtain ⟨r, hr, hb⟩ := key
  obtain ⟨b1, b2⟩ := roundHalfEven_bounds hb
  rw [hr, Ideal.liftRound_coe, hiCode_eq, loCode_eq, max_eq_right, min_eq_right]
  · exact_mod_cast b2
  · exact_mod_cast b1

/-- The unclipped chunk. -/
theorem decoded_unclipped {M v : EReal} (hM : 0 ≤ M) (h1 : v ≤ M) (h2 : -v ≤ M) :
    (((Ideal.fptosi 8 (Ideal.liftRound Ideal.roundHalfEven
      (v * Ideal.div 1 (scaleOf M)))).toInt : ℝ) : EReal) * scaleOf M = decoded v (scaleOf M) := by
  rw [← decoded_clipped hM, mul_recip hM, unclipped hM h1 h2]

/-- The largest absolute value of a block of 256 rows. -/
noncomputable def peak (p : Fin 256 → Fin 512 → EReal) : EReal :=
  Finset.fold max (Ideal.ofBits .f32 0xFF800000#32) (fun x : Fin 256 × Fin 512 =>
    max (p x.1 x.2) (-p x.1 x.2)) Finset.univ

theorem abs_le_peak (p : Fin 256 → Fin 512 → EReal) (i : Fin 256) (k : Fin 512) :
    max (p i k) (-p i k) ≤ peak p :=
  (Finset.le_fold_max _).mpr (Or.inr ⟨(i, k), Finset.mem_univ _, le_rfl⟩)

theorem peak_nonneg (p : Fin 256 → Fin 512 → EReal) : 0 ≤ peak p := by
  refine le_trans ?_ (abs_le_peak p 0 0)
  rcases le_total 0 (p 0 0) with h | h
  · exact le_max_of_le_left h
  · exact le_max_of_le_right (by simpa using EReal.neg_le_neg_iff.mpr h)

end Cert.Exchange
-- ==== Proof.KernelValue.lean ====
module

public import proofs.«01_k».proof.Proof.Run
public import proofs.«01_k».proof.Proof.Codec

/-!
What a device writes, entry by entry.
-/

@[expose] public section

namespace Cert.Exchange

open Idealize.ShloMosaic Cert.KernelIdeal Cert.KernelIdeal.Gen
set_option maxRecDepth 16384

/-- An entry of the product of a chunk of rows with the transposed weights. -/
noncomputable def entry (x : Vec Ideal S256x2048 .f32) (w : Vec Ideal S512x2048 .f32)
    (i : Fin 256) (k : Fin 512) : EReal :=
  ∑ t : Fin 2048, x (ix2 i t) * w (ix2 k t)

theorem pay2_at (x : Vec Ideal S256x2048 .f32) (w : Vec Ideal S512x2048 .f32) (i : Fin 256)
    (k : Fin 512) : k0_pay2 (F := Ideal) x w (ix2 i k) = entry x w i k := by
  unfold entry
  pointwise [k0_pay2]

theorem pay7_at (x : Vec Ideal S256x2048 .f32) (w : Vec Ideal S512x2048 .f32) (i : Fin 256)
    (k : Fin 512) : k0_pay7 (F := Ideal) x w (ix2 i k) = entry x w i k := by
  unfold entry
  pointwise [k0_pay7]

theorem pay3_eq (x : Vec Ideal S256x2048 .f32) (w : Vec Ideal S512x2048 .f32) :
    k0_pay3 (F := Ideal) x w = scaleOf (peak (entry x w)) := by
  have h := pay2_at x w
  unfold k0_pay3 scaleOf peak
  generalize k0_pay2 (F := Ideal) x w = p at h ⊢
  pointwise []
  simp only [h]
  rfl

theorem pay4_of {x : Vec Ideal S256x2048 .f32} {w : Vec Ideal S512x2048 .f32} {e : EReal}
    (h : k0_pay3 (F := Ideal) x w = e) : k0_pay4 (F := Ideal) x w = Ideal.div 1 e := by
  unfold k0_pay4
  rw [h]
  pointwise []

theorem pay6_of {x : Vec Ideal S256x2048 .f32} {w : Vec Ideal S512x2048 .f32} {e : EReal}
    (h : k0_pay3 (F := Ideal) x w = e) : k0_pay6 (F := Ideal) x w = fun _ => e := by
  unfold k0_pay6
  rw [h]
  funext i
  idx_vars i
  pointwise []

theorem pay5_of {x : Vec Ideal S256x2048 .f32} {w : Vec Ideal S512x2048 .f32} {r : EReal}
    {p : FVec Ideal S256x512 .f32} (h4 : k0_pay4 (F := Ideal) x w = r)
    (h2 : k0_pay2 (F := Ideal) x w = p) (i : Fin 256) (k : Fin 512) :
    k0_pay5 (F := Ideal) x w (ix3 0 i k)
      = Ideal.fptosi 8 (Ideal.liftRound Ideal.roundHalfEven (p (ix2 i k) * r)) := by
  unfold k0_pay5
  rw [h4, h2]
  pointwise []
  rfl

theorem pay9_of {x : Vec Ideal S256x2048 .f32} {w : Vec Ideal S512x2048 .f32} {r : EReal}
    {p : FVec Ideal S256x512 .f32} (h7 : k0_pay7 (F := Ideal) x w = p) (i : Fin 256)
    (k : Fin 512) :
    k0_pay9 (F := Ideal) (k0_pay8 (F := Ideal) r x w) (ix3 0 i k)
      = Ideal.fptosi 8 (min hiCode (max loCode (Ideal.liftRound Ideal.roundHalfEven
          (p (ix2 i k) * r)))) := by
  unfold k0_pay8
  rw [h7]
  pointwise [k0_pay9]
  rfl

theorem pay5_at (x : Vec Ideal S256x2048 .f32) (w : Vec Ideal S512x2048 .f32) (i : Fin 256)
    (k : Fin 512) : k0_pay5 (F := Ideal) x w (ix3 0 i k)
      = Ideal.fptosi 8 (Ideal.liftRound Ideal.roundHalfEven
          (entry x w i k * Ideal.div 1 (scaleOf (peak (entry x w))))) := by
  rw [pay5_of (pay4_of (pay3_eq x w)) rfl, pay2_at]

theorem pay9_at (x x' : Vec Ideal S256x2048 .f32) (w : Vec Ideal S512x2048 .f32) (i : Fin 256)
    (k : Fin 512) :
    k0_pay9 (F := Ideal) (k0_pay8 (F := Ideal) (k0_pay4 (F := Ideal) x w) x' w) (ix3 0 i k)
      = Ideal.fptosi 8 (min hiCode (max loCode (Ideal.liftRound Ideal.roundHalfEven
          (entry x' w i k * Ideal.div 1 (scaleOf (peak (entry x w))))))) := by
  rw [pay9_of rfl, pay7_at, pay4_of (pay3_eq x w)]

theorem pay11_at (v : FVec Ideal S256x512 .f32) (s : Vec Ideal S1x1x1 .f32)
    (q : Vec Ideal S1x256x512 .i8) (i : Fin 256) (k : Fin 512) :
    k0_pay11 (F := Ideal) v (k0_pay10 (F := Ideal) s) q (ix2 i k)
      = (v (ix2 i k) : EReal) + (((q (ix3 0 i k)).toInt : ℝ) : EReal) * s (ix3 0 0 0) := by
  pointwise [k0_pay11, k0_pay10]
  rfl

theorem pay1_at (v : FVec Ideal S256x512 .f32) (s : Vec Ideal S1x1x1 .f32)
    (q : Vec Ideal S1x256x512 .i8) (i : Fin 256) (k : Fin 512) :
    k0_pay1 (F := Ideal) v (k0_pay12 (F := Ideal) s) q (ix2 i k)
      = (v (ix2 i k) : EReal) + (((q (ix3 0 i k)).toInt : ℝ) : EReal) * s (ix3 0 0 0) := by
  pointwise [k0_pay1, k0_pay12]
  rfl

variable (m : (ℓ : Loc nD τ sig) → Buf (Elt Ideal) ℓ)

theorem sc1_at (c : Dev nD) (j : S1x1x1.Idx) :
    sc1 m c j = scaleOf (peak (entry (x0 m c) (wv m c))) :=
  congrFun (pay6_of (pay3_eq _ _)) (corner j)

theorem y0_at (c : Dev nD) (i : Fin 256) (k : Fin 512) :
    (y0 m c (ix2 i k) : EReal) = entry (x0 m c) (wv m c) i k
      + decoded (entry (x0 m (peer c)) (wv m (peer c)) i k)
          (scaleOf (peak (entry (x0 m (peer c)) (wv m (peer c))))) := by
  have hp := max_le_iff.mp (abs_le_peak (entry (x0 m (peer c)) (wv m (peer c))) i k)
  rw [← decoded_unclipped (peak_nonneg _) hp.1 hp.2]
  refine (pay11_at _ _ _ i k).trans ?_
  rw [pay2_at, sc1_at, q0, pay5_at]

theorem y1_at (c : Dev nD) (i : Fin 256) (k : Fin 512) :
    (y1 m c (ix2 i k) : EReal) = entry (x1 m c) (wv m c) i k
      + decoded (entry (x1 m (peer c)) (wv m (peer c)) i k)
          (scaleOf (peak (entry (x0 m (peer c)) (wv m (peer c))))) := by
  rw [← decoded_clipped (peak_nonneg _)]
  refine (pay1_at _ _ _ i k).trans ?_
  rw [pay7_at, sc1_at, q1, pay9_at]

end Cert.Exchange
-- ==== Proof.RefValue.lean ====
module

public import proofs.«01_k».proof.Proof.Gen.ReferenceIdeal.Run
public import proofs.«01_k».proof.Proof.Codec
public import Idealize.ShloMosaic.Lib.Tactic.CleanTypes

/-!
What the reference computes, entry by entry.
-/

@[expose] public section

namespace Cert.Exchange

open Idealize.ShloMosaic

/-- An entry of one half of the contraction: the columns `2048 x … 2048 x + 2047`. -/
noncomputable def half (A B : FVec Ideal ⟨2, ![512, 4096]⟩ .f32) (x : Fin 2) (i k : Fin 512) :
    EReal :=
  ∑ t : Fin 2048, (A (ix2 i ⟨x.val * 2048 + t.val, by omega⟩) : EReal)
    * B (ix2 k ⟨x.val * 2048 + t.val, by omega⟩)

/-- The scale of one half's sum, taken on its first 256 rows. -/
noncomputable def halfScale (A B : FVec Ideal ⟨2, ![512, 4096]⟩ .f32) (x : Fin 2) : EReal :=
  scaleOf (peak fun i k => half A B x (i.castLE (by omega)) k)

/-- An entry of one half plus the other half rounded to its int8 code. -/
noncomputable def summed (A B : FVec Ideal ⟨2, ![512, 4096]⟩ .f32) (x : Fin 2) (i k : Fin 512) :
    EReal :=
  half A B x i k + decoded (half A B (1 - x) i k) (halfScale A B (1 - x))

end Cert.Exchange

namespace Cert.ReferenceIdeal.Value

open Cert.ReferenceIdeal Cert.ReferenceIdeal.Gen Idealize.ShloMosaic Idealize.ShloMosaic.TcCoe
open Idealize.SL.Sem Idealize.ShloMosaic.StableHlo Cert.Exchange
set_option maxRecDepth 16384

/-- The product over the first 2048 columns. -/
noncomputable def leftDot (A B : FVec Ideal S512x4096 .f32) : FVec Ideal S512x512 .f32 :=
  Host.dotGeneral dot_S512x2048_S2048x512_S512x512_1_0_0_1_n_n none
    (extractStridedSlice S512x2048 ![0, 0] A slices_S512x4096_S512x2048_0_0)
    (transpose S2048x512 [1, 0]
      (extractStridedSlice S512x2048 ![0, 0] B slices_S512x4096_S512x2048_0_0)
      transposes_S512x2048_S2048x512_1_0)

/-- The product over the last 2048 columns. -/
noncomputable def rightDot (A B : FVec Ideal S512x4096 .f32) : FVec Ideal S512x512 .f32 :=
  Host.dotGeneral dot_S512x2048_S2048x512_S512x512_1_0_0_1_n_n none
    (extractStridedSlice S512x2048 ![0, 2048] A slices_S512x4096_S512x2048_0_2048)
    (transpose S2048x512 [1, 0]
      (extractStridedSlice S512x2048 ![0, 2048] B slices_S512x4096_S512x2048_0_2048)
      transposes_S512x2048_S2048x512_1_0)

/-- The scale, as the reference computes it from a product. -/
noncomputable def scaleVec (Q : FVec Ideal S512x512 .f32) : FVec Ideal S_ .f32 :=
  addf (mulf (Host.reduce FloatOps.maximumf
      (Host.absf (extractStridedSlice S256x512 ![0, 0] Q slices_S512x512_S256x512_0_0))
      (constant S_ .f32 0xFF800000#32) reducesTo_S256x512_S_d0_1 h_S_)
    (constant S_ .f32 0x3C214285#32)) (constant S_ .f32 0x0DA24260#32)

/-- One half of the reference's result, from the two products and a scale. -/
noncomputable def halfVec (P Q : FVec Ideal S512x512 .f32) (s : FVec Ideal S_ .f32) :
    FVec Ideal S512x512 .f32 :=
  addf P (mulf (sitofp .f32 (extsi 32 (trunci 8 (fptosi 32
    (minimumf (broadcastInDim S512x512 ![] bcast_S_S512x512 (id (constant S_ .f32 0x42FE0000#32)))
      (maximumf
        (broadcastInDim S512x512 ![] bcast_S_S512x512 (id (constant S_ .f32 0xC2FE0000#32)))
        (Host.roundeven (Host.divf Q (broadcastInDim S512x512 ![] bcast_S_S512x512 s))))))
    natLt_8_32) natLt_8_32)) (broadcastInDim S512x512 ![] bcast_S_S512x512 s))

theorem leftDot_at (A B : FVec Ideal S512x4096 .f32) (i k : Fin 512) :
    leftDot A B (ix2 i k) = half A B 0 i k := by
  unfold leftDot half
  pointwise []

theorem rightDot_at (A B : FVec Ideal S512x4096 .f32) (i k : Fin 512) :
    rightDot A B (ix2 i k) = half A B 1 i k := by
  unfold rightDot half
  pointwise []

theorem reduce_at (T : FVec Ideal S256x512 .f32) (b : FVec Ideal S_ .f32) :
    Host.reduce FloatOps.maximumf T b reducesTo_S256x512_S_d0_1 h_S_ ix0
      = Finset.fold max (b ix0 : EReal) (fun x : Fin 256 × Fin 512 => (T (ix2 x.1 x.2) : EReal))
          Finset.univ := by
  pointwise []
  rw [show Shape.Idx.first h_S_ = ix0 from funext fun a => a.elim0]

theorem abs_at (Q : FVec Ideal S512x512 .f32) (q : Fin 512 → Fin 512 → EReal)
    (h : ∀ i k, Q (ix2 i k) = q i k) (i : Fin 256) (k : Fin 512) :
    (Host.absf (extractStridedSlice S256x512 ![0, 0] Q slices_S512x512_S256x512_0_0)
        (ix2 i k) : EReal)
      = max (q (i.castLE (by omega)) k) (-q (i.castLE (by omega)) k) := by
  pointwise []
  simp only [h]
  rfl

theorem affine_at (v a b : FVec Ideal S_ .f32) :
    addf (mulf v a) b ix0 = (v ix0 : EReal) * a ix0 + b ix0 := rfl

theorem scaleVec_at (Q : FVec Ideal S512x512 .f32) (q : Fin 512 → Fin 512 → EReal)
    (h : ∀ i k, Q (ix2 i k) = q i k) :
    scaleVec Q ix0 = scaleOf (peak fun i k => q (i.castLE (by omega)) k) := by
  have hf : (fun x : Fin 256 × Fin 512 =>
      (Host.absf (extractStridedSlice S256x512 ![0, 0] Q slices_S512x512_S256x512_0_0)
        (ix2 x.1 x.2) : EReal)) = fun x => max (q (x.1.castLE (by omega)) x.2)
          (-q (x.1.castLE (by omega)) x.2) := funext fun x => abs_at Q q h x.1 x.2
  unfold scaleVec scaleOf peak
  rw [affine_at, reduce_at, hf]
  rfl

theorem halfVec_at (P Q : FVec Ideal S512x512 .f32) (s : FVec Ideal S_ .f32) (i k : Fin 512) :
    halfVec P Q s (ix2 i k) = (P (ix2 i k) : EReal) + decoded (Q (ix2 i k)) (s ix0) := by
  unfold halfVec decoded
  pointwise []
  rfl

theorem out_eq (m : (ℓ : Loc nD τ sig) → Buf (Elt Ideal) ℓ) (c : Dev nD)
    (A B : FVec Ideal S512x4096 .f32) (hA : m ((c.tc : Thread nD τ).loc main_arg0) = A)
    (hB : m ((c.tc : Thread nD τ).loc main_arg1) = B) :
    res_main_v40 (F := Ideal) m c = concatenate S1024x512 0
      [⟨S512x512, halfVec (leftDot A B) (rightDot A B) (scaleVec (rightDot A B))⟩,
       ⟨S512x512, halfVec (rightDot A B) (leftDot A B) (scaleVec (leftDot A B))⟩]
      concatenates_S512x512_S512x512_S1024x512_d0 := by
  subst hA hB
  rfl

theorem out_lo (m : (ℓ : Loc nD τ sig) → Buf (Elt Ideal) ℓ) (c : Dev nD)
    (A B : FVec Ideal S512x4096 .f32) (hA : m ((c.tc : Thread nD τ).loc main_arg0) = A)
    (hB : m ((c.tc : Thread nD τ).loc main_arg1) = B) (i : Fin 1024) (k : Fin 512)
    (h : i.val < 512) :
    (show EReal from res_main_v40 (F := Ideal) m c (ix2 i k)) = summed A B 0 ⟨i.val, h⟩ k := by
  rw [out_eq m c A B hA hB, summed, halfScale, sub_zero, ← leftDot_at, ← rightDot_at,
    ← scaleVec_at _ _ (rightDot_at A B), ← halfVec_at]
  generalize halfVec (leftDot A B) (rightDot A B) (scaleVec (rightDot A B)) = X
  generalize halfVec (rightDot A B) (leftDot A B) (scaleVec (leftDot A B)) = Y
  pointwise []
  rw [dif_pos h]

theorem out_hi (m : (ℓ : Loc nD τ sig) → Buf (Elt Ideal) ℓ) (c : Dev nD)
    (A B : FVec Ideal S512x4096 .f32) (hA : m ((c.tc : Thread nD τ).loc main_arg0) = A)
    (hB : m ((c.tc : Thread nD τ).loc main_arg1) = B) (i : Fin 1024) (k : Fin 512)
    (h : ¬ i.val < 512) :
    (show EReal from res_main_v40 (F := Ideal) m c (ix2 i k))
      = summed A B 1 ⟨i.val - 512, by omega⟩ k := by
  rw [out_eq m c A B hA hB, summed, halfScale, sub_self, ← leftDot_at, ← rightDot_at,
    ← scaleVec_at _ _ (leftDot_at A B), ← halfVec_at]
  generalize halfVec (leftDot A B) (rightDot A B) (scaleVec (rightDot A B)) = X
  generalize halfVec (rightDot A B) (leftDot A B) (scaleVec (leftDot A B)) = Y
  pointwise []
  rw [dif_neg h]

end Cert.ReferenceIdeal.Value
-- ==== Proof.Algebra.lean ====
module

public import proofs.«01_k».proof.Defs
public import proofs.«01_k».proof.Proof.KernelValue
public import proofs.«01_k».proof.Proof.RefValue
public import Idealize.ShloMosaic.Lib.LayoutAt

/-!
The kernel's results are the blocks of the reference's result.
-/

@[expose] public section

namespace Cert.Exchange

open Idealize.ShloMosaic Idealize.ShloMosaic.TcCoe Idealize.SL.Sem
open Cert.KernelIdeal Cert.KernelIdeal.Gen
set_option maxRecDepth 16384

variable (m : (ℓ : Loc nD τ sig) → Buf (Elt Ideal) ℓ)

/-- The half of the contraction that a device holds: its coordinate on the first mesh axis. -/
def side (c : Dev nD) : Fin 2 := ⟨c.val / 16, by have : c.val < 32 := c.isLt; omega⟩

theorem side_peer (c : Dev nD) : side (peer c) = 1 - side c := by
  revert c
  decide

/-- The block of columns a device is given. -/
abbrev colBlock (A : FVec Ideal ⟨2, ![512, 4096]⟩ .f32) (c : Dev nD) :
    FVec Ideal ⟨2, ![512, 2048]⟩ .f32 :=
  Layout.blockN ⟨2, ![512, 2048]⟩ ⟨2, ![512, 4096]⟩ (Layout.meshBlock [2, 4, 4] ![[], [0]] c) A

theorem colBlock_at (A : FVec Ideal ⟨2, ![512, 4096]⟩ .f32) (c : Dev nD) (i : Fin 512)
    (t : Fin 2048) :
    colBlock A c (ix2 i t) = A (ix2 i ⟨(side c).val * 2048 + t.val, by omega⟩) := by
  have hc : c.val < 32 := c.isLt
  refine congrArg A (funext fun b => Fin.ext ?_)
  rw [Layout.TilesN.idx_val, Layout.meshBlock_val]
  match b with
  | ⟨0, _⟩ => exact (Nat.zero_add i.val)
  | ⟨1, _⟩ =>
    show (c.val / 16 % 2 * 1 + 0) * 2048 + t.val = c.val / 16 * 2048 + t.val
    omega

theorem x0_at {A : FVec Ideal ⟨2, ![512, 4096]⟩ .f32} {c : Dev nD}
    (h : m ((c.tc : Thread nD τ).loc main_arg0) = colBlock A c) (i : Fin 256) (t : Fin 2048) :
    x0 m c (ix2 i t)
      = A (ix2 (i.castLE (by omega)) ⟨(side c).val * 2048 + t.val, by omega⟩) := by
  refine Eq.trans ?_ (colBlock_at A c _ t)
  rw [← h]
  refine congrArg (m ((c.tc : Thread nD τ).loc main_arg0)) (funext fun b => Fin.ext ?_)
  match b with
  | ⟨0, _⟩ => exact (show 0 + 1 * i.val = i.val by omega)
  | ⟨1, _⟩ => exact (show 0 + 1 * t.val = t.val by omega)

theorem x1_at {A : FVec Ideal ⟨2, ![512, 4096]⟩ .f32} {c : Dev nD}
    (h : m ((c.tc : Thread nD τ).loc main_arg0) = colBlock A c) (i : Fin 256) (t : Fin 2048) :
    x1 m c (ix2 i t)
      = A (ix2 ⟨256 + i.val, by omega⟩ ⟨(side c).val * 2048 + t.val, by omega⟩) := by
  refine Eq.trans ?_ (colBlock_at A c _ t)
  rw [← h]
  refine congrArg (m ((c.tc : Thread nD τ).loc main_arg0)) (funext fun b => Fin.ext ?_)
  match b with
  | ⟨0, _⟩ => exact (show 256 + 1 * i.val = 256 + i.val by omega)
  | ⟨1, _⟩ => exact (show 0 + 1 * t.val = t.val by omega)

theorem entry_lo {A B : FVec Ideal ⟨2, ![512, 4096]⟩ .f32} {c : Dev nD}
    (hA : m ((c.tc : Thread nD τ).loc main_arg0) = colBlock A c)
    (hB : m ((c.tc : Thread nD τ).loc main_arg1) = colBlock B c) (i : Fin 256) (k : Fin 512) :
    entry (x0 m c) (wv m c) i k = half A B (side c) (i.castLE (by omega)) k := by
  refine Finset.sum_congr rfl fun t _ => ?_
  rw [x0_at m hA, wv, hB, colBlock_at]

theorem entry_hi {A B : FVec Ideal ⟨2, ![512, 4096]⟩ .f32} {c : Dev nD}
    (hA : m ((c.tc : Thread nD τ).loc main_arg0) = colBlock A c)
    (hB : m ((c.tc : Thread nD τ).loc main_arg1) = colBlock B c) (i : Fin 256) (k : Fin 512) :
    entry (x1 m c) (wv m c) i k = half A B (side c) ⟨256 + i.val, by omega⟩ k := by
  refine Finset.sum_congr rfl fun t _ => ?_
  rw [x1_at m hA, wv, hB, colBlock_at]

theorem scale_eq {A B : FVec Ideal ⟨2, ![512, 4096]⟩ .f32} {c : Dev nD}
    (hA : m ((c.tc : Thread nD τ).loc main_arg0) = colBlock A c)
    (hB : m ((c.tc : Thread nD τ).loc main_arg1) = colBlock B c) :
    scaleOf (peak (entry (x0 m c) (wv m c))) = halfScale A B (side c) :=
  congrArg (fun p => scaleOf (peak p)) (funext fun i => funext fun k => entry_lo m hA hB i k)

/-- What a device writes, in terms of the whole arrays. -/
theorem outAt_at {A B : FVec Ideal ⟨2, ![512, 4096]⟩ .f32}
    (hA : ∀ c : Dev nD, m ((c.tc : Thread nD τ).loc main_arg0) = colBlock A c)
    (hB : ∀ c : Dev nD, m ((c.tc : Thread nD τ).loc main_arg1) = colBlock B c) (c : Dev nD)
    (i k : Fin 512) :
    (outAt m c (ix2 i k) : EReal) = summed A B (side c) i k := by
  unfold summed
  rw [← side_peer, ← scale_eq m (hA (peer c)) (hB (peer c))]
  unfold outAt
  by_cases h : i.val < 256
  · refine (dif_pos h).trans ?_
    refine Eq.trans (b := (y0 m c (ix2 ⟨i.val, h⟩ k) : EReal)) (congrArg (y0 m c) ?_) ?_
    · exact eq_ix2 _
    · rw [y0_at, entry_lo m (hA _) (hB _), entry_lo m (hA _) (hB _)]
      rfl
  · refine (dif_neg h).trans ?_
    have h' : i.val - 256 < 256 := by omega
    have e : (⟨256 + (⟨i.val - 256, h'⟩ : Fin 256).val, by simp only; omega⟩ : Fin 512) = i :=
      Fin.ext (by simp only; omega)
    refine Eq.trans (b := (y1 m c (ix2 ⟨i.val - 256, h'⟩ k) : EReal)) (congrArg (y1 m c) ?_) ?_
    · exact eq_ix2 _
    · rw [y1_at, entry_hi m (hA _) (hB _), entry_hi m (hA _) (hB _), e]

/-- The reference's result, cut along its rows, is what the devices write. -/
theorem out_block (m' : (ℓ : Loc Cert.ReferenceIdeal.nD Cert.ReferenceIdeal.τ
      Cert.ReferenceIdeal.sig) → Buf (Elt Ideal) ℓ) (c' : Dev Cert.ReferenceIdeal.nD)
    {A B : FVec Ideal ⟨2, ![512, 4096]⟩ .f32}
    (hA' : m' ((c'.tc : Thread Cert.ReferenceIdeal.nD Cert.ReferenceIdeal.τ).loc
      Cert.ReferenceIdeal.main_arg0) = A)
    (hB' : m' ((c'.tc : Thread Cert.ReferenceIdeal.nD Cert.ReferenceIdeal.τ).loc
      Cert.ReferenceIdeal.main_arg1) = B)
    (hA : ∀ c : Dev nD, m ((c.tc : Thread nD τ).loc main_arg0) = colBlock A c)
    (hB : ∀ c : Dev nD, m ((c.tc : Thread nD τ).loc main_arg1) = colBlock B c) (c : Dev nD) :
    (outAt m c : FVec Ideal ⟨2, ![512, 512]⟩ .f32)
      = Layout.blockN ⟨2, ![512, 512]⟩ ⟨2, ![1024, 512]⟩ (Layout.meshBlock [2, 4, 4] ![[0], []] c)
          (Cert.ReferenceIdeal.Value.res_main_v40 (F := Ideal) m' c') := by
  funext j
  obtain ⟨i, k, rfl⟩ : ∃ (i : Fin 512) (k : Fin 512), j = ix2 i k := ⟨j 0, j 1, eq_ix2 j⟩
  have hc : c.val < 32 := c.isLt
  have hi : (side c).val * 512 + i.val < 1024 := by omega
  have hj : ∀ (v : FVec Ideal ⟨2, ![1024, 512]⟩ .f32),
      Layout.blockN ⟨2, ![512, 512]⟩ ⟨2, ![1024, 512]⟩ (Layout.meshBlock [2, 4, 4] ![[0], []] c) v
        (by decide) (ix2 i k) = v (ix2 ⟨(side c).val * 512 + i.val, hi⟩ k) := by
    intro v
    refine congrArg v (funext fun b => Fin.ext ?_)
    rw [Layout.TilesN.idx_val, Layout.meshBlock_val]
    match b with
    | ⟨0, _⟩ =>
      show (c.val / 16 % 2 * 1 + 0) * 512 + i.val = c.val / 16 * 512 + i.val
      omega
    | ⟨1, _⟩ => exact (Nat.zero_add k.val)
  refine (outAt_at m hA hB c i k).trans (Eq.trans ?_ (hj _).symm)
  rcases (show side c = 0 ∨ side c = 1 by omega) with h | h
  · have hv : (side c).val * 512 + i.val = i.val := by rw [h]; simp
    refine Eq.trans ?_ (Cert.ReferenceIdeal.Value.out_lo m' c' A B hA' hB' _ k
      (lt_of_eq_of_lt hv i.isLt)).symm
    refine (congrArg (fun x => summed A B x i k) h).trans ?_
    exact congrArg (fun r => summed A B 0 r k) (Fin.ext hv.symm)
  · have hv : (side c).val * 512 + i.val = 512 + i.val := by rw [h]; simp
    refine Eq.trans ?_ (Cert.ReferenceIdeal.Value.out_hi m' c' A B hA' hB' _ k
      (fun hh => absurd (hv.symm.trans_lt hh) (by omega))).symm
    refine (congrArg (fun x => summed A B x i k) h).trans ?_
    exact congrArg (fun r => summed A B 1 r k) (Fin.ext (by simp only; omega))

/-- The kernel and the reference agree, as extended reals. -/
theorem algebraic : Cert.algebraic_KernelIdeal_ReferenceIdeal := by
  intro m g m' g' _ hm
  refine ⟨Cert.ReferenceIdeal.Value.res_main_v40 (F := Ideal) m' 0, ?_, ?_⟩
  · refine (θ_run _ _ _).mono (fun r h c => ⟨(h.1 c).1.trans ?_, (h.1 c).2⟩) (run_main m g)
    exact out_block m m' 0 rfl rfl (fun c => (hm c).1) (fun c => (hm c).2) c
  · exact (θ_run _ _ _).mono (fun r h => h 0) (Cert.ReferenceIdeal.Value.run (F := Ideal) m' g')

/-- The reference's frame. -/
theorem frame_reference : Cert.quiescent_ReferenceIdeal := fun m g _ =>
  (θ_run _ _ _).mono (fun r h => ⟨fun c => (h c).2, sem_eq_zero_of_no_sems (by decide) r.2⟩)
    (Cert.ReferenceIdeal.Value.run (F := Ideal) m g)

end Cert.Exchange
-- ==== Proof.Rounding.lean ====
module

public import proofs.«01_k».proof.Proof.Codec

/-!
How far the decoded number is from the number that was coded: at most half a step, unless it was
clipped.
-/

@[expose] public section

namespace Cert.Exchange

open Idealize.ShloMosaic

noncomputable abbrev oneHalf : EReal := Ideal.ofBits .f32 0x3F000000#32

theorem oneHalf_eq : oneHalf = ((1 / 2 : ℝ) : EReal) := by
  simp [Ideal.ofBits, Ideal.ieee, -EReal.coe_mul]; norm_num

theorem roundHalfEven_near (r : ℝ) :
    (Ideal.roundHalfEven r : ℝ) - r ≤ 1 / 2 ∧ r - (Ideal.roundHalfEven r : ℝ) ≤ 1 / 2 := by
  have h1 := Int.floor_le r
  have h2 := Int.lt_floor_add_one r
  unfold Ideal.roundHalfEven
  dsimp only
  split_ifs <;> push_cast <;> constructor <;> linarith

theorem roundHalfEven_range {r : ℝ} (h1 : -127 ≤ r) (h2 : r ≤ 127) :
    -127 ≤ Ideal.roundHalfEven r ∧ Ideal.roundHalfEven r ≤ 127 := by
  have h := roundHalfEven_near r
  constructor
  · have : (-128 : ℝ) < Ideal.roundHalfEven r := by linarith
    have : (-128 : ℤ) < Ideal.roundHalfEven r := by exact_mod_cast this
    omega
  · have : (Ideal.roundHalfEven r : ℝ) < 128 := by linarith
    have : Ideal.roundHalfEven r < 128 := by exact_mod_cast this
    omega

/-- A real number in the range of the code is decoded to within half a step. -/
theorem decoded_near {v s : ℝ} (hs : 0 < s) (h1 : -v ≤ 127 * s) (h2 : v ≤ 127 * s) :
    ∃ d : ℝ, decoded v s = (d : EReal) ∧ d - 1 / 2 * s ≤ v ∧ v - 1 / 2 * s ≤ d := by
  have hv : Ideal.div (v : EReal) (s : EReal) = ((v * s⁻¹ : ℝ) : EReal) := by
    rw [Ideal.div, if_neg (by exact_mod_cast hs.ne')]; norm_cast
  have e : v * s⁻¹ * s = v := inv_mul_cancel_right₀ hs.ne' v
  have r1 : -127 ≤ v * s⁻¹ := by
    rw [← div_eq_mul_inv, le_div_iff₀ hs]; linarith
  have r2 : v * s⁻¹ ≤ 127 := by
    rw [← div_eq_mul_inv, div_le_iff₀ hs]; linarith
  obtain ⟨b1, b2⟩ := roundHalfEven_range r1 r2
  obtain ⟨n1, n2⟩ := roundHalfEven_near (v * s⁻¹)
  refine ⟨Ideal.roundHalfEven (v * s⁻¹) * s, ?_, ?_, ?_⟩
  · rw [decoded, hv, Ideal.liftRound_coe, hiCode_eq, loCode_eq, max_eq_right, min_eq_right,
      toInt_fptosi32 b1 b2]
    · norm_cast
    · exact_mod_cast b2
    · exact_mod_cast b1
  · nlinarith
  · nlinarith

theorem add_near {d v h : ℝ} (own : EReal) (hd : d - h ≤ v) :
    own + (d : EReal) - (h : EReal) ≤ own + (v : EReal) := by
  rw [sub_eq_add_neg, add_assoc]
  refine add_le_add le_rfl ?_
  rw [← sub_eq_add_neg]
  exact_mod_cast hd

/-- The sum with the decoded half is within half a step of the sum with the half itself. -/
theorem sum_near {M v : EReal} (own : EReal) (hM : 0 ≤ M)
    (hv : max v (-v) ≤ M ∨ max v (-v) ≤ hiCode * scaleOf M) :
    own + decoded v (scaleOf M) - oneHalf * scaleOf M ≤ own + v
      ∧ own + v - oneHalf * scaleOf M ≤ own + decoded v (scaleOf M) := by
  rw [oneHalf_eq]
  induction M with
  | bot => simp at hM
  | top =>
    have h : ((1 / 2 : ℝ) : EReal) * scaleOf ⊤ = ⊤ := by
      rw [scaleOf_top]; exact EReal.coe_mul_top_of_pos (by norm_num)
    rw [h, sub_eq_add_neg, sub_eq_add_neg, EReal.neg_top, EReal.add_bot, EReal.add_bot]
    exact ⟨bot_le, bot_le⟩
  | coe M =>
    obtain ⟨s, hs, h0, hb⟩ := scaleOf_coe M (by exact_mod_cast hM)
    rw [hs] at hv ⊢
    have hv' : max v (-v) ≤ ((127 * s : ℝ) : EReal) := by
      rcases hv with h | h
      · exact h.trans (by exact_mod_cast (show M ≤ 127 * s by linarith))
      · rw [hiCode_eq] at h
        exact_mod_cast h
    obtain ⟨h1, h2⟩ := max_le_iff.mp hv'
    induction v with
    | bot => exact absurd (top_le_iff.mp (EReal.neg_bot ▸ h2)) (EReal.coe_ne_top _)
    | top => exact absurd (top_le_iff.mp h1) (EReal.coe_ne_top _)
    | coe v =>
      obtain ⟨d, hd, d1, d2⟩ := decoded_near h0 (by exact_mod_cast h2) (by exact_mod_cast h1)
      rw [hd, show ((1 / 2 : ℝ) : EReal) * (s : EReal) = ((1 / 2 * s : ℝ) : EReal) by norm_cast]
      exact ⟨add_near own d1, add_near own d2⟩

end Cert.Exchange
-- ==== Proof.Accuracy.lean ====
module

public import proofs.«01_k».proof.Defs
public import proofs.«01_k».proof.Proof.RefValue
public import proofs.«01_k».proof.Proof.Rounding

/-!
The reference's result is the product of the problem, up to half a step of the rounding.
-/

@[expose] public section

namespace Cert.Post_near_the_product

open Idealize.ShloMosaic Idealize.SL.Sem Cert.Exchange Cert.Post_near_the_product.Facts
set_option maxRecDepth 16384

/-- The facts that the predicate states of its shapes. -/
instance facts : Cert.Post_near_the_product.Facts where
  transposes_S512x4096_S4096x512_1_0 := by decide
  slices_S512x4096_S512x2048_0_0 := by decide
  transposes_S512x2048_S2048x512_1_0 := by decide
  slices_S512x4096_S512x2048_0_2048 := by decide
  slices_S1024x512_S512x512_0_0 := by decide
  slices_S512x512_S256x512_0_0 := by decide
  reducesTo_S256x512_S_d0_1 := by decide
  h_S_ := by decide
  bcast_S_S512x512 := by decide
  slices_S512x512_S256x512_256_0 := by decide
  concatenates_S256x512_S256x512_S512x512_d0 := by decide
  slices_S1024x512_S512x512_512_0 := by decide
  concatenates_S512x512_S512x512_S1024x512_d0 := by decide
  dot_S512x4096_S4096x512_S512x512_1_0_0_1_n_n_wf := by decide
  dot_S512x2048_S2048x512_S512x512_1_0_0_1_n_n_wf := by decide

/-- The product that the problem asks for. -/
noncomputable def wholeDot (A B : FVec Ideal S512x4096 .f32) : FVec Ideal S512x512 .f32 :=
  Host.dotGeneral dot_S512x4096_S4096x512_S512x512_1_0_0_1_n_n none A
    (transpose S4096x512 [1, 0] B transposes_S512x4096_S4096x512_1_0)

/-- Which entries lie within half a step. -/
noncomputable def nearVec (G Z : FVec Ideal S512x512 .f32) (s : FVec Ideal S_ .f32) :
    IVec S512x512 1 :=
  andi
    (cmpf .ole (subf G (broadcastInDim S512x512 ![] bcast_S_S512x512
      (mulf (constant S_ .f32 0x3F000000#32) s))) Z)
    (cmpf .ole (subf Z (broadcastInDim S512x512 ![] bcast_S_S512x512
      (mulf (constant S_ .f32 0x3F000000#32) s))) G)

/-- Which entries are clipped. -/
noncomputable def clippedVec (Q : FVec Ideal S512x512 .f32) (s : FVec Ideal S_ .f32) :
    IVec S512x512 1 :=
  cmpf .ogt (Host.absf Q) (broadcastInDim S512x512 ![] bcast_S_S512x512
    (mulf (constant S_ .f32 0x42FE0000#32) s))

/-- One half of the predicate. -/
noncomputable def halfPost (N C : IVec S512x512 1) : IVec S512x512 1 :=
  concatenate S512x512 0
    [⟨S256x512, extractStridedSlice S256x512 ![0, 0] N slices_S512x512_S256x512_0_0⟩,
     ⟨S256x512, ori (extractStridedSlice S256x512 ![256, 0] N slices_S512x512_S256x512_256_0)
      (extractStridedSlice S256x512 ![256, 0] C slices_S512x512_S256x512_256_0)⟩]
    concatenates_S256x512_S256x512_S512x512_d0

theorem wholeDot_at (A B : FVec Ideal S512x4096 .f32) (i k : Fin 512) :
    (wholeDot A B (ix2 i k) : EReal) = half A B 0 i k + half A B 1 i k := by
  have h : (wholeDot A B (ix2 i k) : EReal) = ∑ t : Fin 4096, (A (ix2 i t) : EReal) * B (ix2 k t) := by
    unfold wholeDot
    pointwise []
  rw [h, Fin.sum_univ_two_halves 2048 2048 rfl]
  simp only [half, Fin.val_zero, Fin.val_one, zero_mul, one_mul, zero_add]

theorem nearVec_at (G Z : FVec Ideal S512x512 .f32) (s : FVec Ideal S_ .f32) (i k : Fin 512)
    (h1 : (G (ix2 i k) : EReal) - oneHalf * s ix0 ≤ Z (ix2 i k))
    (h2 : (Z (ix2 i k) : EReal) - oneHalf * s ix0 ≤ G (ix2 i k)) :
    nearVec G Z s (ix2 i k) = 1#1 := by
  unfold nearVec
  pointwise []
  rw [decide_eq_true h1, decide_eq_true h2]
  rfl

theorem clippedVec_at (Q : FVec Ideal S512x512 .f32) (s : FVec Ideal S_ .f32) (i k : Fin 512)
    (h : hiCode * s ix0 < max (Q (ix2 i k) : EReal) (-Q (ix2 i k))) :
    clippedVec Q s (ix2 i k) = 1#1 := by
  unfold clippedVec
  pointwise []
  exact congrArg BitVec.ofBool (decide_eq_true h)

theorem halfPost_at (N C : IVec S512x512 1) (i k : Fin 512)
    (h : N (ix2 i k) = 1#1 ∨ (256 ≤ i.val ∧ C (ix2 i k) = 1#1)) :
    halfPost N C (ix2 i k) = 1#1 := by
  unfold halfPost
  pointwise []
  by_cases hi : i.val < 256
  · rw [dif_pos hi]
    exact h.resolve_right fun hh => absurd hi (Nat.not_lt.mpr hh.1)
  · rw [dif_neg hi]
    have e : (⟨256 + (i.val - 256), by omega⟩ : Fin 512) = i := Fin.ext (by simp only; omega)
    rw [e]
    rcases h with h | ⟨-, h⟩
    · rw [h]
      generalize C (ix2 i k) = c
      revert c
      decide
    · rw [h]
      generalize N (ix2 i k) = c
      revert c
      decide

theorem fn_eq (A B : FVec Ideal S512x4096 .f32) (X : FVec Ideal S1024x512 .f32) :
    fn (F := Ideal) A B X = concatenate S1024x512 0
      [⟨S512x512, halfPost
        (nearVec (extractStridedSlice S512x512 ![0, 0] X slices_S1024x512_S512x512_0_0)
          (wholeDot A B) (Cert.ReferenceIdeal.Value.scaleVec (Cert.ReferenceIdeal.Value.rightDot A B)))
        (clippedVec (Cert.ReferenceIdeal.Value.rightDot A B)
          (Cert.ReferenceIdeal.Value.scaleVec (Cert.ReferenceIdeal.Value.rightDot A B)))⟩,
       ⟨S512x512, halfPost
        (nearVec (extractStridedSlice S512x512 ![512, 0] X slices_S1024x512_S512x512_512_0)
          (wholeDot A B) (Cert.ReferenceIdeal.Value.scaleVec (Cert.ReferenceIdeal.Value.leftDot A B)))
        (clippedVec (Cert.ReferenceIdeal.Value.leftDot A B)
          (Cert.ReferenceIdeal.Value.scaleVec (Cert.ReferenceIdeal.Value.leftDot A B)))⟩]
      concatenates_S512x512_S512x512_S1024x512_d0 := by
  rfl

/-- One half: own half plus decoded half against the whole sum. -/
theorem halfPost_holds (G Z Q : FVec Ideal S512x512 .f32) (A B : FVec Ideal S512x4096 .f32)
    (x : Fin 2) (s : FVec Ideal S_ .f32) (hs : s ix0 = halfScale A B (1 - x)) (i k : Fin 512)
    (hG : G (ix2 i k) = summed A B x i k)
    (hZ : Z (ix2 i k) = half A B x i k + half A B (1 - x) i k)
    (hQ : Q (ix2 i k) = half A B (1 - x) i k) :
    halfPost (nearVec G Z s) (clippedVec Q s) (ix2 i k) = 1#1 := by
  have hM := peak_nonneg fun i k => half A B (1 - x) (i.castLE (by omega)) k
  have near (hv : max (half A B (1 - x) i k) (-half A B (1 - x) i k)
        ≤ (peak fun i k => half A B (1 - x) (i.castLE (by omega)) k)
      ∨ max (half A B (1 - x) i k) (-half A B (1 - x) i k) ≤ hiCode * halfScale A B (1 - x)) :
      nearVec G Z s (ix2 i k) = 1#1 := by
    have h := sum_near (half A B x i k) hM hv
    refine nearVec_at G Z s i k ?_ ?_
    · rw [hG, hZ, hs]; exact h.1
    · rw [hG, hZ, hs]; exact h.2
  apply halfPost_at
  by_cases hi : i.val < 256
  · exact Or.inl (near (Or.inl
      (abs_le_peak (fun i k => half A B (1 - x) (i.castLE (by omega)) k) ⟨i.val, hi⟩ k)))
  · rcases le_or_gt (max (half A B (1 - x) i k) (-half A B (1 - x) i k))
      (hiCode * halfScale A B (1 - x)) with h | h
    · exact Or.inl (near (Or.inr h))
    · refine Or.inr ⟨Nat.not_lt.mp hi, clippedVec_at Q s i k ?_⟩
      rw [hQ, hs]
      exact h

/-- The predicate at an array whose entries are the reference's. -/
theorem fn_holds (A B : FVec Ideal S512x4096 .f32) (X : FVec Ideal S1024x512 .f32)
    (h0 : ∀ (i : Fin 1024) (k : Fin 512) (h : i.val < 512),
      X (ix2 i k) = summed A B 0 ⟨i.val, h⟩ k)
    (h1 : ∀ (i : Fin 1024) (k : Fin 512) (_ : ¬ i.val < 512),
      X (ix2 i k) = summed A B 1 ⟨i.val - 512, by omega⟩ k) :
    fn (F := Ideal) A B X = fun _ => 1#1 := by
  have g0 (i k : Fin 512) :
      extractStridedSlice S512x512 ![0, 0] X slices_S1024x512_S512x512_0_0 (ix2 i k)
        = summed A B 0 i k := by
    pointwise []
    exact h0 ⟨i.val, by omega⟩ k i.isLt
  have g1 (i k : Fin 512) :
      extractStridedSlice S512x512 ![512, 0] X slices_S1024x512_S512x512_512_0 (ix2 i k)
        = summed A B 1 i k := by
    pointwise []
    refine (h1 ⟨512 + i.val, by omega⟩ k (by simp only; omega)).trans ?_
    exact congrArg (fun r => summed A B 1 r k) (Fin.ext (by simp only; omega))
  have top (i k : Fin 512) := halfPost_holds _ (wholeDot A B)
    (Cert.ReferenceIdeal.Value.rightDot A B) A B 0 _
    (Cert.ReferenceIdeal.Value.scaleVec_at _ _ (Cert.ReferenceIdeal.Value.rightDot_at A B)) i k
    (g0 i k) (wholeDot_at A B i k) (Cert.ReferenceIdeal.Value.rightDot_at A B i k)
  have bottom (i k : Fin 512) := halfPost_holds _ (wholeDot A B)
    (Cert.ReferenceIdeal.Value.leftDot A B) A B 1 _
    (Cert.ReferenceIdeal.Value.scaleVec_at _ _ (Cert.ReferenceIdeal.Value.leftDot_at A B)) i k
    (g1 i k) ((wholeDot_at A B i k).trans (add_comm _ _))
    (Cert.ReferenceIdeal.Value.leftDot_at A B i k)
  rw [fn_eq]
  funext j
  idx_vars j
  generalize halfPost _ _ = T at top ⊢
  generalize halfPost _ _ = U at bottom ⊢
  pointwise []
  split
  · exact top _ _
  · exact bottom _ _

/-- The reference's result is the product of the problem up to half a step of the rounding. -/
theorem holds : Cert.holds_ReferenceIdeal_near_the_product := by
  intro m g _
  refine (θ_run _ _ _).mono (fun r h c => ⟨(h c).2.1, (h c).2.2, ?_⟩)
    (Cert.ReferenceIdeal.Value.run (F := Ideal) m g)
  rw [(h c).1]
  exact fn_holds _ _ _
    (fun i k hi => Cert.ReferenceIdeal.Value.out_lo m c _ _ rfl rfl i k hi)
    (fun i k hi => Cert.ReferenceIdeal.Value.out_hi m c _ _ rfl rfl i k hi)

end Cert.Post_near_the_product
-- ==== Proof.lean ====
module

public import proofs.«01_k».proof.Proof.Frames
public import proofs.«01_k».proof.Proof.Algebra
public import proofs.«01_k».proof.Proof.Accuracy

/-!
Everything the certificate claims: the two frames of the kernel and its reference's (Frames.lean,
Algebra.lean), and that the kernel's results are the blocks of the reference's (Algebra.lean),
and that this is the problem's product up to half a step of the rounding (Accuracy.lean).
-/

@[expose] public section

namespace Cert.Proof

theorem claim : Cert.Claim :=
  ⟨Cert.Kernel.Gen.facts, Cert.KernelIdeal.Gen.facts, Cert.ReferenceIdeal.Gen.facts,
    Cert.Post_near_the_product.facts,
    Cert.Exchange.frame_kernel, Cert.Exchange.frame_kernelIdeal, Cert.Exchange.frame_reference,
    trivial, Cert.Exchange.algebraic, Cert.Post_near_the_product.holds⟩

end Cert.Proof
